-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales_KernelIdeal [hPre_finite_scales_KernelIdeal : Cert.Pre_finite_scales_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales_ReferenceIdeal [hPre_finite_scales_ReferenceIdeal : Cert.Pre_finite_scales_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scales_KernelIdeal [hKernelIdeal : Cert.KernelIdeal.Facts] [hPre_finite_scales_KernelIdeal : Cert.Pre_finite_scales_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scales_ReferenceIdeal [hReferenceIdeal : Cert.ReferenceIdeal.Facts] [hPre_finite_scales_ReferenceIdeal : Cert.Pre_finite_scales_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scales_KernelIdeal [hKernelIdeal : Cert.KernelIdeal.Facts] [hReferenceIdeal : Cert.ReferenceIdeal.Facts] [hPre_finite_scales_KernelIdeal : Cert.Pre_finite_scales_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scales_KernelIdeal : Cert.Pre_finite_scales_KernelIdeal.Facts) (hPre_finite_scales_ReferenceIdeal : Cert.Pre_finite_scales_ReferenceIdeal.Facts),
    quiescent_Kernel (hKernel := hKernel)
    ∧ quiescent_KernelIdeal (hKernelIdeal := hKernelIdeal)
    ∧ quiescent_KernelIdeal_pre_finite_scales_KernelIdeal (hKernelIdeal := hKernelIdeal) (hPre_finite_scales_KernelIdeal := hPre_finite_scales_KernelIdeal)
    ∧ quiescent_ReferenceIdeal (hReferenceIdeal := hReferenceIdeal)
    ∧ quiescent_ReferenceIdeal_pre_finite_scales_ReferenceIdeal (hReferenceIdeal := hReferenceIdeal) (hPre_finite_scales_ReferenceIdeal := hPre_finite_scales_ReferenceIdeal)
    ∧ preserves_Kernel_KernelIdeal
    ∧ algebraic_KernelIdeal_ReferenceIdeal_pre_finite_scales_KernelIdeal (hKernelIdeal := hKernelIdeal) (hReferenceIdeal := hReferenceIdeal) (hPre_finite_scales_KernelIdeal := hPre_finite_scales_KernelIdeal)
-- ==== Pre_finite_scales_KernelIdeal.lean ====
abbrev S4096x256 : Shape := ⟨2, ![4096, 256]⟩
abbrev S256x8192 : Shape := ⟨2, ![256, 8192]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : IVec S4096x256 8) (main_arg1 : IVec S256x8192 8) (main_arg2 : FVec F S1 .f32) (main_arg3 : FVec F S1 .f32) : IVec S_ 1 :=
  let main_v0 : FVec F S_ .f32 := shapeCast S_ main_arg2 shapeCasts_S1_S_
  let main_v1 : FVec F S_ .f32 := Host.absf main_v0
  let main_cst : FVec F S_ .f32 := constant S_ .f32 0x7F800000#32
  let main_v2 : IVec S_ 1 := cmpf .olt main_v1 main_cst
  let main_v3 : FVec F S_ .f32 := shapeCast S_ main_arg3 shapeCasts_S1_S_
  let main_v4 : FVec F S_ .f32 := Host.absf main_v3
  let main_cst_0 : FVec F S_ .f32 := constant S_ .f32 0x7F800000#32
  let main_v5 : IVec S_ 1 := cmpf .olt main_v4 main_cst_0
  let main_v6 : IVec S_ 1 := andi main_v2 main_v5
  main_v6
-- ==== Pre_finite_scales_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : IVec S4096x4096 8) (main_arg1 : IVec S4096x8192 8) (main_arg2 : FVec F S1 .f32) (main_arg3 : FVec F S1 .f32) : IVec S_ 1 :=
  let main_v0 : FVec F S_ .f32 := shapeCast S_ main_arg2 shapeCasts_S1_S_
  let main_v1 : FVec F S_ .f32 := Host.absf main_v0
  let main_cst : FVec F S_ .f32 := constant S_ .f32 0x7F800000#32
  let main_v2 : IVec S_ 1 := cmpf .olt main_v1 main_cst
  let main_v3 : FVec F S_ .f32 := shapeCast S_ main_arg3 shapeCasts_S1_S_
  let main_v4 : FVec F S_ .f32 := Host.absf main_v3
  let main_cst_0 : FVec F S_ .f32 := constant S_ .f32 0x7F800000#32
  let main_v5 : IVec S_ 1 := cmpf .olt main_v4 main_cst_0
  let main_v6 : IVec S_ 1 := andi main_v2 main_v5
  main_v6
-- ==== Kernel.lean ====
abbrev S4096x256 : Shape := ⟨2, ![4096, 256]⟩
abbrev S256x8192 : Shape := ⟨2, ![256, 8192]⟩
abbrev S1 : Shape := ⟨1, ![1]⟩
abbrev S1x1 : Shape := ⟨2, ![1, 1]⟩
abbrev S4096x4096 : Shape := ⟨2, ![4096, 4096]⟩
abbrev S4096x8192 : Shape := ⟨2, ![4096, 8192]⟩
abbrev S15 : Shape := ⟨1, ![15]⟩
abbrev S2048x256 : Shape := ⟨2, ![2048, 256]⟩
abbrev S256x4096 : Shape := ⟨2, ![256, 4096]⟩
abbrev S4 : Shape := ⟨1, ![4]⟩
abbrev S_ : Shape := ⟨0, ![]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x256, .i8⟩
  | .hbm, ⟨1, _⟩ => ⟨S256x8192, .i8⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1x1, .f32⟩
  | .hbm, ⟨6, _⟩ => ⟨S4096x4096, .bf16⟩
  | .hbm, ⟨7, _⟩ => ⟨S4096x8192, .bf16⟩
  | .hbm, ⟨8, _⟩ => ⟨S4096x8192, .f32⟩
  | .local _ .vmem, ⟨0, _⟩ => ⟨S4096x256, .i8⟩
  | .local _ .vmem, ⟨1, _⟩ => ⟨S256x8192, .i8⟩
  | .local _ .vmem, ⟨2, _⟩ => ⟨S1x1, .f32⟩
  | .local _ .vmem, ⟨3, _⟩ => ⟨S4096x4096, .i8⟩
  | .local _ .vmem, ⟨4, _⟩ => ⟨S4096x8192, .i8⟩
  | .local _ .vmem, ⟨5, _⟩ => ⟨S2048x256, .bf16⟩
  | .local _ .vmem, ⟨6, _⟩ => ⟨S2048x256, .bf16⟩
  | .local _ .vmem, ⟨7, _⟩ => ⟨S256x4096, .bf16⟩
  | .local _ .vmem, ⟨8, _⟩ => ⟨S256x4096, .bf16⟩
  | .local _ .vmem, ⟨9, _⟩ => ⟨S1024x4096, .bf16⟩
  | .local _ .vmem, ⟨10, _⟩ => ⟨S1024x4096, .bf16⟩
  | .local _ .vmem, ⟨11, _⟩ => ⟨S4096x1024, .bf16⟩
  | .local _ .vmem, ⟨12, _⟩ => ⟨S4096x1024, .bf16⟩
  | .local _ .vmem, ⟨13, _⟩ => ⟨S1024x1024, .f32⟩
  | .local _ .vmem, ⟨14, _⟩ => ⟨S1024x1024, .f32⟩
  | _, _ => ⟨S4096x256, .i8⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch10 : Ref sig .tc := ⟨.vmem, 5, rfl⟩
abbrev cc0_scratch11 : Ref sig .tc := ⟨.vmem, 6, rfl⟩
abbrev cc0_scratch12 : Ref sig .tc := ⟨.vmem, 7, rfl⟩
abbrev cc0_scratch13 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 127
abbrev cc1_sem0_1 : DmaSem sig := 128
abbrev cc1_sem1_0 : DmaSem sig := 129
abbrev cc1_sem1_1 : DmaSem sig := 130
abbrev cc1_sem2_0 : DmaSem sig := 131
abbrev cc1_sem2_1 : DmaSem sig := 132
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let c0_13 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v17 : BitVec 32 := Scalar.muli v2 c256_i32
  let v18 : Index := Scalar.indexCast v17
  ![0, v18.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_16 : BitVec 32 := 256#32
  let v24 : BitVec 32 := Scalar.muli v2 c256_i32_16
  let v25 : Index := Scalar.indexCast v24
  let c0_17 : Index := 0#32
  ![v25.toNat, 0]
def k0_off3 (d0 : Dev nD) (c0_i32_18 : BitVec 32) : Fin 2 → Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v29 : BitVec 32 := Scalar.subi v2 c0_i32_18
  let c16_i32_19 : BitVec 32 := 16#32
  let v30 : BitVec 32 := Scalar.addi v29 c16_i32_19
  let c16_i32_20 : BitVec 32 := 16#32
  let v31 : BitVec 32 := Scalar.remsi v30 c16_i32_20
  let c256_i32_23 : BitVec 32 := 256#32
  let v34 : BitVec 32 := Scalar.muli v31 c256_i32_23
  ![0, v34.toNat]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_27 : BitVec 32 := 1#32
  let v36 : BitVec 32 := Scalar.muli v7 c1_i32_27
  let v37 : BitVec 32 := Scalar.addi c0_i32_28 v36
  v37.toNat
def k0_off4 (d0 : Dev nD) (c0_i32_21 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v32 : BitVec 32 := Scalar.addi v2 c0_i32_21
  let c16_i32_22 : BitVec 32 := 16#32
  let v33 : BitVec 32 := Scalar.remsi v32 c16_i32_22
  let c256_i32_24 : BitVec 32 := 256#32
  let v35 : BitVec 32 := Scalar.muli v33 c256_i32_24
  ![2048, v35.toNat]
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_33 : BitVec 32 := 1#32
  let v44 : BitVec 32 := Scalar.muli v5 c1_i32_33
  let v45 : BitVec 32 := Scalar.addi c0_i32_34 v44
  v45.toNat
def k0_off5 (d0 : Dev nD) (c0_i32_18 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v29 : BitVec 32 := Scalar.subi v2 c0_i32_18
  let c16_i32_19 : BitVec 32 := 16#32
  let v30 : BitVec 32 := Scalar.addi v29 c16_i32_19
  let c16_i32_20 : BitVec 32 := 16#32
  let v31 : BitVec 32 := Scalar.remsi v30 c16_i32_20
  let c256_i32_23 : BitVec 32 := 256#32
  let v34 : BitVec 32 := Scalar.muli v31 c256_i32_23
  let c0_i32_40 : BitVec 32 := 0#32
  ![v34.toNat, 0]
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_38 : BitVec 32 := 1#32
  let v52 : BitVec 32 := Scalar.muli v7 c1_i32_38
  let v53 : BitVec 32 := Scalar.addi c0_i32_39 v52
  v53.toNat
def k0_off6 (d0 : Dev nD) (c0_i32_21 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v32 : BitVec 32 := Scalar.addi v2 c0_i32_21
  let c16_i32_22 : BitVec 32 := 16#32
  let v33 : BitVec 32 := Scalar.remsi v32 c16_i32_22
  let c256_i32_24 : BitVec 32 := 256#32
  let v35 : BitVec 32 := Scalar.muli v33 c256_i32_24
  let c4096_i32 : BitVec 32 := 4096#32
  ![v35.toNat, 4096]
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_44 : BitVec 32 := 1#32
  let v60 : BitVec 32 := Scalar.muli v5 c1_i32_44
  let v61 : BitVec 32 := Scalar.addi c0_i32_45 v60
  v61.toNat
def k0_off7 (d0 : Dev nD) : Fin 2 → Nat :=
  let c0_48 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_47 : BitVec 32 := 256#32
  let v68 : BitVec 32 := Scalar.muli v2 c256_i32_47
  let v69 : Index := Scalar.indexCast v68
  ![0, v69.toNat]
def k0_off8 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_47 : BitVec 32 := 256#32
  let v68 : BitVec 32 := Scalar.muli v2 c256_i32_47
  ![0, v68.toNat]
def k0_off9 (d0 : Dev nD) : Fin 2 → Nat :=
  let c2048 : Index := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_47 : BitVec 32 := 256#32
  let v68 : BitVec 32 := Scalar.muli v2 c256_i32_47
  let v81 : Index := Scalar.indexCast v68
  ![2048, v81.toNat]
def k0_off10 (d0 : Dev nD) : Fin 2 → Nat :=
  let c2048_i32_56 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_47 : BitVec 32 := 256#32
  let v68 : BitVec 32 := Scalar.muli v2 c256_i32_47
  ![2048, v68.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_47 : BitVec 32 := 256#32
  let v68 : BitVec 32 := Scalar.muli v2 c256_i32_47
  let v93 : Index := Scalar.indexCast v68
  let c0_57 : Index := 0#32
  ![v93.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_47 : BitVec 32 := 256#32
  let v68 : BitVec 32 := Scalar.muli v2 c256_i32_47
  let c0_i32_61 : BitVec 32 := 0#32
  ![v68.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_47 : BitVec 32 := 256#32
  let v68 : BitVec 32 := Scalar.muli v2 c256_i32_47
  let v102 : Index := Scalar.indexCast v68
  let c4096 : Index := 4096#32
  ![v102.toNat, 4096]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_47 : BitVec 32 := 256#32
  let v68 : BitVec 32 := Scalar.muli v2 c256_i32_47
  let c4096_i32_64 : BitVec 32 := 4096#32
  ![v68.toNat, 4096]
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_98 : BitVec 32 := 1#32
  let v142 : BitVec 32 := Scalar.muli v7 c1_i32_98
  let v143 : BitVec 32 := Scalar.addi c0_i32_99 v142
  v143.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_104 : BitVec 32 := 1#32
  let v150 : BitVec 32 := Scalar.muli v5 c1_i32_104
  let v151 : BitVec 32 := Scalar.addi c0_i32_105 v150
  v151.toNat
def k0_dev9 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_110 : BitVec 32 := 1#32
  let v158 : BitVec 32 := Scalar.muli v7 c1_i32_110
  let v159 : BitVec 32 := Scalar.addi c0_i32_111 v158
  v159.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_116 : BitVec 32 := 1#32
  let v166 : BitVec 32 := Scalar.muli v5 c1_i32_116
  let v167 : BitVec 32 := Scalar.addi c0_i32_117 v166
  v167.toNat
def k0_off15 (d0 : Dev nD) (c0_i32_121 : BitVec 32) : Fin 2 → Nat :=
  let c0_128 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v174 : BitVec 32 := Scalar.subi v2 c1_i32_120
  let v175 : BitVec 32 := Scalar.subi v174 c0_i32_121
  let c16_i32_122 : BitVec 32 := 16#32
  let v176 : BitVec 32 := Scalar.addi v175 c16_i32_122
  let c16_i32_123 : BitVec 32 := 16#32
  let v177 : BitVec 32 := Scalar.remsi v176 c16_i32_123
  let c256_i32_127 : BitVec 32 := 256#32
  let v181 : BitVec 32 := Scalar.muli v177 c256_i32_127
  let v182 : Index := Scalar.indexCast v181
  ![0, v182.toNat]
def k0_off16 (d0 : Dev nD) (c0_i32_121 : BitVec 32) : Fin 2 → Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v174 : BitVec 32 := Scalar.subi v2 c1_i32_120
  let v175 : BitVec 32 := Scalar.subi v174 c0_i32_121
  let c16_i32_122 : BitVec 32 := 16#32
  let v176 : BitVec 32 := Scalar.addi v175 c16_i32_122
  let c16_i32_123 : BitVec 32 := 16#32
  let v177 : BitVec 32 := Scalar.remsi v176 c16_i32_123
  let c256_i32_127 : BitVec 32 := 256#32
  let v181 : BitVec 32 := Scalar.muli v177 c256_i32_127
  ![0, v181.toNat]
def k0_off17 (d0 : Dev nD) (c0_i32_121 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v174 : BitVec 32 := Scalar.subi v2 c1_i32_120
  let v175 : BitVec 32 := Scalar.subi v174 c0_i32_121
  let c16_i32_122 : BitVec 32 := 16#32
  let v176 : BitVec 32 := Scalar.addi v175 c16_i32_122
  let c16_i32_123 : BitVec 32 := 16#32
  let v177 : BitVec 32 := Scalar.remsi v176 c16_i32_123
  let c256_i32_127 : BitVec 32 := 256#32
  let v181 : BitVec 32 := Scalar.muli v177 c256_i32_127
  let v197 : Index := Scalar.indexCast v181
  let c0_135 : Index := 0#32
  ![v197.toNat, 0]
def k0_off18 (d0 : Dev nD) (c0_i32_121 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v174 : BitVec 32 := Scalar.subi v2 c1_i32_120
  let v175 : BitVec 32 := Scalar.subi v174 c0_i32_121
  let c16_i32_122 : BitVec 32 := 16#32
  let v176 : BitVec 32 := Scalar.addi v175 c16_i32_122
  let c16_i32_123 : BitVec 32 := 16#32
  let v177 : BitVec 32 := Scalar.remsi v176 c16_i32_123
  let c256_i32_127 : BitVec 32 := 256#32
  let v181 : BitVec 32 := Scalar.muli v177 c256_i32_127
  let c0_i32_141 : BitVec 32 := 0#32
  ![v181.toNat, 0]
def k0_off19 (d0 : Dev nD) (c0_i32_125 : BitVec 32) : Fin 2 → Nat :=
  let c2048_143 : Index := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_124 : BitVec 32 := 1#32
  let v178 : BitVec 32 := Scalar.addi v2 c1_i32_124
  let v179 : BitVec 32 := Scalar.addi v178 c0_i32_125
  let c16_i32_126 : BitVec 32 := 16#32
  let v180 : BitVec 32 := Scalar.remsi v179 c16_i32_126
  let c256_i32_142 : BitVec 32 := 256#32
  let v209 : BitVec 32 := Scalar.muli v180 c256_i32_142
  let v210 : Index := Scalar.indexCast v209
  ![2048, v210.toNat]
def k0_off20 (d0 : Dev nD) (c0_i32_125 : BitVec 32) : Fin 2 → Nat :=
  let c2048_i32_149 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_124 : BitVec 32 := 1#32
  let v178 : BitVec 32 := Scalar.addi v2 c1_i32_124
  let v179 : BitVec 32 := Scalar.addi v178 c0_i32_125
  let c16_i32_126 : BitVec 32 := 16#32
  let v180 : BitVec 32 := Scalar.remsi v179 c16_i32_126
  let c256_i32_142 : BitVec 32 := 256#32
  let v209 : BitVec 32 := Scalar.muli v180 c256_i32_142
  ![2048, v209.toNat]
def k0_off21 (d0 : Dev nD) (c0_i32_125 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_124 : BitVec 32 := 1#32
  let v178 : BitVec 32 := Scalar.addi v2 c1_i32_124
  let v179 : BitVec 32 := Scalar.addi v178 c0_i32_125
  let c16_i32_126 : BitVec 32 := 16#32
  let v180 : BitVec 32 := Scalar.remsi v179 c16_i32_126
  let c256_i32_142 : BitVec 32 := 256#32
  let v209 : BitVec 32 := Scalar.muli v180 c256_i32_142
  let v225 : Index := Scalar.indexCast v209
  let c4096_150 : Index := 4096#32
  ![v225.toNat, 4096]
def k0_off22 (d0 : Dev nD) (c0_i32_125 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_124 : BitVec 32 := 1#32
  let v178 : BitVec 32 := Scalar.addi v2 c1_i32_124
  let v179 : BitVec 32 := Scalar.addi v178 c0_i32_125
  let c16_i32_126 : BitVec 32 := 16#32
  let v180 : BitVec 32 := Scalar.remsi v179 c16_i32_126
  let c256_i32_142 : BitVec 32 := 256#32
  let v209 : BitVec 32 := Scalar.muli v180 c256_i32_142
  let c4096_i32_156 : BitVec 32 := 4096#32
  ![v209.toNat, 4096]
def k0_dev11 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_190 : BitVec 32 := 1#32
  let v268 : BitVec 32 := Scalar.muli v7 c1_i32_190
  let v269 : BitVec 32 := Scalar.addi c0_i32_191 v268
  v269.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_196 : BitVec 32 := 1#32
  let v276 : BitVec 32 := Scalar.muli v5 c1_i32_196
  let v277 : BitVec 32 := Scalar.addi c0_i32_197 v276
  v277.toNat
def k0_dev13 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_202 : BitVec 32 := 1#32
  let v284 : BitVec 32 := Scalar.muli v7 c1_i32_202
  let v285 : BitVec 32 := Scalar.addi c0_i32_203 v284
  v285.toNat
def k0_dev14 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_208 : BitVec 32 := 1#32
  let v292 : BitVec 32 := Scalar.muli v5 c1_i32_208
  let v293 : BitVec 32 := Scalar.addi c0_i32_209 v292
  v293.toNat
def k0_dev15 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_282 : BitVec 32 := 1#32
  let v394 : BitVec 32 := Scalar.muli v7 c1_i32_282
  let v395 : BitVec 32 := Scalar.addi c0_i32_283 v394
  v395.toNat
def k0_dev16 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_288 : BitVec 32 := 1#32
  let v402 : BitVec 32 := Scalar.muli v5 c1_i32_288
  let v403 : BitVec 32 := Scalar.addi c0_i32_289 v402
  v403.toNat
def k0_dev17 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_294 : BitVec 32 := 1#32
  let v410 : BitVec 32 := Scalar.muli v7 c1_i32_294
  let v411 : BitVec 32 := Scalar.addi c0_i32_295 v410
  v411.toNat
def k0_dev18 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_300 : BitVec 32 := 1#32
  let v418 : BitVec 32 := Scalar.muli v5 c1_i32_300
  let v419 : BitVec 32 := Scalar.addi c0_i32_301 v418
  v419.toNat
def k0_dev19 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_373 : BitVec 32 := 1#32
  let v520 : BitVec 32 := Scalar.muli v7 c1_i32_373
  let v521 : BitVec 32 := Scalar.addi c0_i32_374 v520
  v521.toNat
def k0_dev20 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_379 : BitVec 32 := 1#32
  let v528 : BitVec 32 := Scalar.muli v5 c1_i32_379
  let v529 : BitVec 32 := Scalar.addi c0_i32_380 v528
  v529.toNat
def k0_dev21 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_385 : BitVec 32 := 1#32
  let v536 : BitVec 32 := Scalar.muli v7 c1_i32_385
  let v537 : BitVec 32 := Scalar.addi c0_i32_386 v536
  v537.toNat
def k0_dev22 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_391 : BitVec 32 := 1#32
  let v544 : BitVec 32 := Scalar.muli v5 c1_i32_391
  let v545 : BitVec 32 := Scalar.addi c0_i32_392 v544
  v545.toNat
def k0_dev23 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_464 : BitVec 32 := 1#32
  let v646 : BitVec 32 := Scalar.muli v7 c1_i32_464
  let v647 : BitVec 32 := Scalar.addi c0_i32_465 v646
  v647.toNat
def k0_dev24 (d0 : Dev nD) : Nat :=
  let c0_i32_471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_470 : BitVec 32 := 1#32
  let v654 : BitVec 32 := Scalar.muli v5 c1_i32_470
  let v655 : BitVec 32 := Scalar.addi c0_i32_471 v654
  v655.toNat
def k0_dev25 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_476 : BitVec 32 := 1#32
  let v662 : BitVec 32 := Scalar.muli v7 c1_i32_476
  let v663 : BitVec 32 := Scalar.addi c0_i32_477 v662
  v663.toNat
def k0_dev26 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_482 : BitVec 32 := 1#32
  let v670 : BitVec 32 := Scalar.muli v5 c1_i32_482
  let v671 : BitVec 32 := Scalar.addi c0_i32_483 v670
  v671.toNat
def k0_dev27 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_555 : BitVec 32 := 1#32
  let v772 : BitVec 32 := Scalar.muli v7 c1_i32_555
  let v773 : BitVec 32 := Scalar.addi c0_i32_556 v772
  v773.toNat
def k0_dev28 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_561 : BitVec 32 := 1#32
  let v780 : BitVec 32 := Scalar.muli v5 c1_i32_561
  let v781 : BitVec 32 := Scalar.addi c0_i32_562 v780
  v781.toNat
def k0_dev29 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_567 : BitVec 32 := 1#32
  let v788 : BitVec 32 := Scalar.muli v7 c1_i32_567
  let v789 : BitVec 32 := Scalar.addi c0_i32_568 v788
  v789.toNat
def k0_dev30 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_573 : BitVec 32 := 1#32
  let v796 : BitVec 32 := Scalar.muli v5 c1_i32_573
  let v797 : BitVec 32 := Scalar.addi c0_i32_574 v796
  v797.toNat
def k0_dev31 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_646 : BitVec 32 := 1#32
  let v898 : BitVec 32 := Scalar.muli v7 c1_i32_646
  let v899 : BitVec 32 := Scalar.addi c0_i32_647 v898
  v899.toNat
def k0_dev32 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_652 : BitVec 32 := 1#32
  let v906 : BitVec 32 := Scalar.muli v5 c1_i32_652
  let v907 : BitVec 32 := Scalar.addi c0_i32_653 v906
  v907.toNat
def k0_dev33 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_658 : BitVec 32 := 1#32
  let v914 : BitVec 32 := Scalar.muli v7 c1_i32_658
  let v915 : BitVec 32 := Scalar.addi c0_i32_659 v914
  v915.toNat
def k0_dev34 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_664 : BitVec 32 := 1#32
  let v922 : BitVec 32 := Scalar.muli v5 c1_i32_664
  let v923 : BitVec 32 := Scalar.addi c0_i32_665 v922
  v923.toNat
def k0_dev35 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_737 : BitVec 32 := 1#32
  let v1024 : BitVec 32 := Scalar.muli v7 c1_i32_737
  let v1025 : BitVec 32 := Scalar.addi c0_i32_738 v1024
  v1025.toNat
def k0_dev36 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_743 : BitVec 32 := 1#32
  let v1032 : BitVec 32 := Scalar.muli v5 c1_i32_743
  let v1033 : BitVec 32 := Scalar.addi c0_i32_744 v1032
  v1033.toNat
def k0_dev37 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_749 : BitVec 32 := 1#32
  let v1040 : BitVec 32 := Scalar.muli v7 c1_i32_749
  let v1041 : BitVec 32 := Scalar.addi c0_i32_750 v1040
  v1041.toNat
def k0_dev38 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_755 : BitVec 32 := 1#32
  let v1048 : BitVec 32 := Scalar.muli v5 c1_i32_755
  let v1049 : BitVec 32 := Scalar.addi c0_i32_756 v1048
  v1049.toNat
def k0_dev39 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_828 : BitVec 32 := 1#32
  let v1150 : BitVec 32 := Scalar.muli v7 c1_i32_828
  let v1151 : BitVec 32 := Scalar.addi c0_i32_829 v1150
  v1151.toNat
def k0_dev40 (d0 : Dev nD) : Nat :=
  let c0_i32_835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_834 : BitVec 32 := 1#32
  let v1158 : BitVec 32 := Scalar.muli v5 c1_i32_834
  let v1159 : BitVec 32 := Scalar.addi c0_i32_835 v1158
  v1159.toNat
def k0_dev41 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_840 : BitVec 32 := 1#32
  let v1166 : BitVec 32 := Scalar.muli v7 c1_i32_840
  let v1167 : BitVec 32 := Scalar.addi c0_i32_841 v1166
  v1167.toNat
def k0_dev42 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_846 : BitVec 32 := 1#32
  let v1174 : BitVec 32 := Scalar.muli v5 c1_i32_846
  let v1175 : BitVec 32 := Scalar.addi c0_i32_847 v1174
  v1175.toNat
def k0_dev43 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_919 : BitVec 32 := 1#32
  let v1276 : BitVec 32 := Scalar.muli v7 c1_i32_919
  let v1277 : BitVec 32 := Scalar.addi c0_i32_920 v1276
  v1277.toNat
def k0_dev44 (d0 : Dev nD) : Nat :=
  let c0_i32_926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_925 : BitVec 32 := 1#32
  let v1284 : BitVec 32 := Scalar.muli v5 c1_i32_925
  let v1285 : BitVec 32 := Scalar.addi c0_i32_926 v1284
  v1285.toNat
def k0_dev45 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_931 : BitVec 32 := 1#32
  let v1292 : BitVec 32 := Scalar.muli v7 c1_i32_931
  let v1293 : BitVec 32 := Scalar.addi c0_i32_932 v1292
  v1293.toNat
def k0_dev46 (d0 : Dev nD) : Nat :=
  let c0_i32_938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_937 : BitVec 32 := 1#32
  let v1300 : BitVec 32 := Scalar.muli v5 c1_i32_937
  let v1301 : BitVec 32 := Scalar.addi c0_i32_938 v1300
  v1301.toNat
def k0_dev47 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1010 : BitVec 32 := 1#32
  let v1402 : BitVec 32 := Scalar.muli v7 c1_i32_1010
  let v1403 : BitVec 32 := Scalar.addi c0_i32_1011 v1402
  v1403.toNat
def k0_dev48 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1016 : BitVec 32 := 1#32
  let v1410 : BitVec 32 := Scalar.muli v5 c1_i32_1016
  let v1411 : BitVec 32 := Scalar.addi c0_i32_1017 v1410
  v1411.toNat
def k0_dev49 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1022 : BitVec 32 := 1#32
  let v1418 : BitVec 32 := Scalar.muli v7 c1_i32_1022
  let v1419 : BitVec 32 := Scalar.addi c0_i32_1023 v1418
  v1419.toNat
def k0_dev50 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1028 : BitVec 32 := 1#32
  let v1426 : BitVec 32 := Scalar.muli v5 c1_i32_1028
  let v1427 : BitVec 32 := Scalar.addi c0_i32_1029 v1426
  v1427.toNat
def k0_dev51 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1101 : BitVec 32 := 1#32
  let v1528 : BitVec 32 := Scalar.muli v7 c1_i32_1101
  let v1529 : BitVec 32 := Scalar.addi c0_i32_1102 v1528
  v1529.toNat
def k0_dev52 (d0 : Dev nD) : Nat :=
  let c0_i32_1108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1107 : BitVec 32 := 1#32
  let v1536 : BitVec 32 := Scalar.muli v5 c1_i32_1107
  let v1537 : BitVec 32 := Scalar.addi c0_i32_1108 v1536
  v1537.toNat
def k0_dev53 (d0 : Dev nD) : Nat :=
  let c0_i32_1114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1113 : BitVec 32 := 1#32
  let v1544 : BitVec 32 := Scalar.muli v7 c1_i32_1113
  let v1545 : BitVec 32 := Scalar.addi c0_i32_1114 v1544
  v1545.toNat
def k0_dev54 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1119 : BitVec 32 := 1#32
  let v1552 : BitVec 32 := Scalar.muli v5 c1_i32_1119
  let v1553 : BitVec 32 := Scalar.addi c0_i32_1120 v1552
  v1553.toNat
def k0_dev55 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1192 : BitVec 32 := 1#32
  let v1654 : BitVec 32 := Scalar.muli v7 c1_i32_1192
  let v1655 : BitVec 32 := Scalar.addi c0_i32_1193 v1654
  v1655.toNat
def k0_dev56 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1198 : BitVec 32 := 1#32
  let v1662 : BitVec 32 := Scalar.muli v5 c1_i32_1198
  let v1663 : BitVec 32 := Scalar.addi c0_i32_1199 v1662
  v1663.toNat
def k0_dev57 (d0 : Dev nD) : Nat :=
  let c0_i32_1205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1204 : BitVec 32 := 1#32
  let v1670 : BitVec 32 := Scalar.muli v7 c1_i32_1204
  let v1671 : BitVec 32 := Scalar.addi c0_i32_1205 v1670
  v1671.toNat
def k0_dev58 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1210 : BitVec 32 := 1#32
  let v1678 : BitVec 32 := Scalar.muli v5 c1_i32_1210
  let v1679 : BitVec 32 := Scalar.addi c0_i32_1211 v1678
  v1679.toNat
def k0_dev59 (d0 : Dev nD) : Nat :=
  let c0_i32_1284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1283 : BitVec 32 := 1#32
  let v1780 : BitVec 32 := Scalar.muli v7 c1_i32_1283
  let v1781 : BitVec 32 := Scalar.addi c0_i32_1284 v1780
  v1781.toNat
def k0_dev60 (d0 : Dev nD) : Nat :=
  let c0_i32_1290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1289 : BitVec 32 := 1#32
  let v1788 : BitVec 32 := Scalar.muli v5 c1_i32_1289
  let v1789 : BitVec 32 := Scalar.addi c0_i32_1290 v1788
  v1789.toNat
def k0_dev61 (d0 : Dev nD) : Nat :=
  let c0_i32_1296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1295 : BitVec 32 := 1#32
  let v1796 : BitVec 32 := Scalar.muli v7 c1_i32_1295
  let v1797 : BitVec 32 := Scalar.addi c0_i32_1296 v1796
  v1797.toNat
def k0_dev62 (d0 : Dev nD) : Nat :=
  let c0_i32_1302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1301 : BitVec 32 := 1#32
  let v1804 : BitVec 32 := Scalar.muli v5 c1_i32_1301
  let v1805 : BitVec 32 := Scalar.addi c0_i32_1302 v1804
  v1805.toNat
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Body.lean ====
/-
  The all-gather kernel's body as a uniform program: per hop h four addressed copies, four waits for what arrives, four casts. Every operation takes the array,
  the piece and the semaphore as arguments, so that one rule covers all hops and all four streams (x top to the right, x bottom to the left, w left columns to
  the right, w right columns to the left). The printed body is this program, by definitional unfolding.
-/
module

public import proofs.«01_k».proof.Proof.Gen.KernelIdeal.Skeleton

@[expose] public section

noncomputable section

namespace Cert.KernelIdeal.Gath

open Idealize.ShloMosaic Idealize.SL.Sem Cert.KernelIdeal Cert.KernelIdeal.Gen

variable {F : FTy → Type} [FloatOps F]

/-- Programs of one core. -/
abbrev PG (F : FTy → Type) (α : Type) := Prog (TpuEff nD τ sig (Elt F) Λ₀ .tc) α

theorem inb15 (h : Fin 15) : ∀ a, (![h.val] : Fin 1 → Nat) a + S1.size a ≤ S15.size a := by revert h; decide
theorem inb4 (h : Fin 4) : ∀ a, (![h.val] : Fin 1 → Nat) a + S1.size a ≤ S4.size a := by revert h; decide

/-- Semaphore h of an array of fifteen. -/
def semAt (a : DmaSems sig S15) (h : Fin 15) : DmaSem sig := ((a.slice (Rect.unit (s := S15) ![h.val] S1.size (inb15 h))).squeeze S_ squeezes_S1_S_).sem
/-- Semaphore k of an array of four. -/
def semAt4 (a : DmaSems sig S4) (k : Fin 4) : DmaSem sig := ((a.slice (Rect.unit (s := S4) ![k.val] S1.size (inb4 k))).squeeze S_ squeezes_S1_S_).sem

section Ops

variable {S : Shape} {sz : Fin S.rank → ℕ}

/-- The copy of one piece of the array g to the same place of device d's array. -/
def sendOp (g : Memref sig .tc .vmem S .i8) (hg : g.IsWhole) (off : Fin S.rank → ℕ) (inb : ∀ a, off a + sz a ≤ S.size a)
    (ww : (Rect.unit (s := S) off sz inb).WholeWords (EltTy.packing .i8)) (d : Dev nD) (s r : DmaSem sig) : PG F PUnit :=
  Prog.lift (.enqueueDma (g.slice (Rect.unit (s := S) off sz inb) (fun _ => rfl)) (.remote (Dev.tc d) (g.slice (Rect.unit (s := S) off sz inb) (fun _ => rfl)) (.dma s)) (.dma r)
    (hg.wordExact_slice rfl _ ww) (hg.wordExact_slice rfl _ ww) ⟨⟨rfl, Or.inl rfl⟩, trivial⟩)

/-- The wait for one piece of the array g. -/
def waitOp (g : Memref sig .tc .vmem S .i8) (hg : g.IsWhole) (off : Fin S.rank → ℕ) (inb : ∀ a, off a + sz a ≤ S.size a)
    (ww : (Rect.unit (s := S) off sz inb).WholeWords (EltTy.packing .i8)) (s : DmaSem sig) : PG F PUnit :=
  Prog.lift (.waitDma2 s (g.slice (Rect.unit (s := S) off sz inb) (fun _ => rfl)) (g.slice (Rect.unit (s := S) off sz inb) (fun _ => rfl))
    (hg.wordExact_slice rfl _ ww) (hg.wordExact_slice rfl _ ww))

/-- The wait for the copy of the stage st to a piece of the result o. -/
def flushOp (st : Memref sig .tc .vmem ⟨S.rank, sz⟩ .bf16) (hst : st.IsWhole) (o : Memref sig .tc .hbm S .bf16) (ho : o.IsWhole) (off : Fin S.rank → ℕ)
    (inb : ∀ a, off a + sz a ≤ S.size a) (ww : (Rect.unit (s := S) off sz inb).WholeWords (EltTy.packing .bf16)) (s : DmaSem sig) : PG F PUnit :=
  Prog.lift (.waitDma2 s st (o.slice (Rect.unit (s := S) off sz inb) (fun _ => rfl)) hst.wordExact (ho.wordExact_slice rfl _ ww))

/-- One piece of the array g, read. -/
def loadOp (g : Memref sig .tc .vmem S .i8) (off : Fin S.rank → ℕ) (inb : ∀ a, off a + sz a ≤ S.size a) (hp : 0 < (⟨S.rank, sz⟩ : Shape).numel) :
    PG F (Vec F ⟨S.rank, sz⟩ .i8) :=
  Prog.lift (.load g (Rect.unit (s := S) off sz inb).toLoadRect (View.loadsAt_vmem hp))

/-- The stage st set to the vector v, and its copy to a piece of the result o begun. -/
def putOp (st : Memref sig .tc .vmem ⟨S.rank, sz⟩ .bf16) (hst : st.IsWhole) (z : Fin S.rank → ℕ) (hz : ∀ a, z a + sz a ≤ sz a) (hp : 0 < (⟨S.rank, sz⟩ : Shape).numel)
    (pk : (Rect.unit (s := ⟨S.rank, sz⟩) z sz hz).PackedRows (EltTy.packing .bf16)) (v : Vec F ⟨S.rank, sz⟩ .bf16)
    (o : Memref sig .tc .hbm S .bf16) (ho : o.IsWhole) (off : Fin S.rank → ℕ)
    (inb : ∀ a, off a + sz a ≤ S.size a) (ww : (Rect.unit (s := S) off sz inb).WholeWords (EltTy.packing .bf16)) (s : DmaSem sig) : PG F PUnit := do
  let _ : Vec F ⟨S.rank, sz⟩ .bf16 ← Prog.lift (.load st (Rect.unit (s := ⟨S.rank, sz⟩) z sz hz).toLoadRect (View.loadsAt_vmem hp))
  Prog.lift (.store st (Rect.unit (s := ⟨S.rank, sz⟩) z sz hz) v Finset.univ (View.stores_vmem hp (hst.storeExact_slice rfl _ pk) (fun _ => rfl)) (.inl rfl))
  Prog.lift (.enqueueDma st (.here (o.slice (Rect.unit (s := S) off sz inb) (fun _ => rfl))) (.dma s) hst.wordExact (ho.wordExact_slice rfl _ ww) ⟨Or.inl rfl, trivial⟩)

end Ops

section Prog

variable (arg0 : Memref sig .tc .vmem S4096x256 .i8) (harg0 : arg0.IsWhole) (arg1 : Memref sig .tc .vmem S256x8192 .i8) (harg1 : arg1.IsWhole) (arg2 : Memref sig .tc .vmem S1x1 .f32) (harg2 : arg2.IsWhole) (arg3 : Memref sig .tc .hbm S4096x4096 .bf16) (harg3 : arg3.IsWhole) (arg4 : Memref sig .tc .hbm S4096x8192 .bf16) (harg4 : arg4.IsWhole) (arg5 : Memref sig .tc .vmem S4096x4096 .i8) (harg5 : arg5.IsWhole) (arg6 : Memref sig .tc .vmem S4096x8192 .i8) (harg6 : arg6.IsWhole) (arg7 : DmaSems sig S15) (arg8 : DmaSems sig S15) (arg9 : DmaSems sig S15) (arg10 : DmaSems sig S15) (arg11 : DmaSems sig S15) (arg12 : DmaSems sig S15) (arg13 : DmaSems sig S15) (arg14 : DmaSems sig S15) (arg15 : Memref sig .tc .vmem S2048x256 .bf16) (harg15 : arg15.IsWhole) (arg16 : Memref sig .tc .vmem S2048x256 .bf16) (harg16 : arg16.IsWhole) (arg17 : Memref sig .tc .vmem S256x4096 .bf16) (harg17 : arg17.IsWhole) (arg18 : Memref sig .tc .vmem S256x4096 .bf16) (harg18 : arg18.IsWhole) (arg19 : DmaSems sig S4)

/-- The cast of a piece of x: every number times the scale, rounded. -/
def castX (s : F .f32) (v : Vec F S2048x256 .i8) : Vec F S2048x256 .bf16 := k0_pay4 s v
/-- The cast of a piece of w. -/
def castW (v : Vec F S256x4096 .i8) : Vec F S256x4096 .bf16 := k0_pay8 v

/-- Hop h's four copies. -/
def sends (d0 : Dev nD) (h : Fin 15) : PG F PUnit := do
  sendOp (S := S4096x4096) (sz := S2048x256.size) arg5 harg5 (k0_off3 d0 (BitVec.ofNat 32 h.val)) (k0_off3_inb d0 h) (k0_off3_wordsi8 d0 h) ⟨k0_dev3 d0, k0_dev3_lt d0⟩ (semAt arg7 h) (semAt arg8 h)
  sendOp (S := S4096x4096) (sz := S2048x256.size) arg5 harg5 (k0_off4 d0 (BitVec.ofNat 32 h.val)) (k0_off4_inb d0 h) (k0_off4_wordsi8 d0 h) ⟨k0_dev4 d0, k0_dev4_lt d0⟩ (semAt arg9 h) (semAt arg10 h)
  sendOp (S := S4096x8192) (sz := S256x4096.size) arg6 harg6 (k0_off5 d0 (BitVec.ofNat 32 h.val)) (k0_off5_inb d0 h) (k0_off5_wordsi8 d0 h) ⟨k0_dev5 d0, k0_dev5_lt d0⟩ (semAt arg11 h) (semAt arg12 h)
  sendOp (S := S4096x8192) (sz := S256x4096.size) arg6 harg6 (k0_off6 d0 (BitVec.ofNat 32 h.val)) (k0_off6_inb d0 h) (k0_off6_wordsi8 d0 h) ⟨k0_dev6 d0, k0_dev6_lt d0⟩ (semAt arg13 h) (semAt arg14 h)

/-- Four waits of hop h, on the semaphores of the four given arrays: for what arrives, and for what has left. -/
def waits (a b c e : DmaSems sig S15) (d0 : Dev nD) (h : Fin 15) : PG F PUnit := do
  waitOp (S := S4096x4096) (sz := S2048x256.size) arg5 harg5 (k0_off3 d0 (BitVec.ofNat 32 h.val)) (k0_off3_inb d0 h) (k0_off3_wordsi8 d0 h) (semAt a h)
  waitOp (S := S4096x4096) (sz := S2048x256.size) arg5 harg5 (k0_off4 d0 (BitVec.ofNat 32 h.val)) (k0_off4_inb d0 h) (k0_off4_wordsi8 d0 h) (semAt b h)
  waitOp (S := S4096x8192) (sz := S256x4096.size) arg6 harg6 (k0_off5 d0 (BitVec.ofNat 32 h.val)) (k0_off5_inb d0 h) (k0_off5_wordsi8 d0 h) (semAt c h)
  waitOp (S := S4096x8192) (sz := S256x4096.size) arg6 harg6 (k0_off6 d0 (BitVec.ofNat 32 h.val)) (k0_off6_inb d0 h) (k0_off6_wordsi8 d0 h) (semAt e h)

/-- The waits for the copies out of the stages begun at hop h. -/
def flushT (d0 : Dev nD) (h : Fin 15) : PG F PUnit :=
  flushOp (S := S4096x4096) (sz := S2048x256.size) arg15 harg15 arg3 harg3 (k0_off16 d0 (BitVec.ofNat 32 h.val)) (k0_off16_inb d0 h) (k0_off16_wordsbf16 d0 h) (semAt4 arg19 0)
def flushB (d0 : Dev nD) (h : Fin 15) : PG F PUnit :=
  flushOp (S := S4096x4096) (sz := S2048x256.size) arg16 harg16 arg3 harg3 (k0_off20 d0 (BitVec.ofNat 32 h.val)) (k0_off20_inb d0 h) (k0_off20_wordsbf16 d0 h) (semAt4 arg19 1)
def flushL (d0 : Dev nD) (h : Fin 15) : PG F PUnit :=
  flushOp (S := S4096x8192) (sz := S256x4096.size) arg17 harg17 arg4 harg4 (k0_off18 d0 (BitVec.ofNat 32 h.val)) (k0_off18_inb d0 h) (k0_off18_wordsbf16 d0 h) (semAt4 arg19 2)
def flushR (d0 : Dev nD) (h : Fin 15) : PG F PUnit :=
  flushOp (S := S4096x8192) (sz := S256x4096.size) arg18 harg18 arg4 harg4 (k0_off22 d0 (BitVec.ofNat 32 h.val)) (k0_off22_inb d0 h) (k0_off22_wordsbf16 d0 h) (semAt4 arg19 3)

/-- The four casts of the device's own pieces. -/
def casts0 (d0 : Dev nD) (s : F .f32) : PG F PUnit := do
  let v ← loadOp (S := S4096x4096) (sz := S2048x256.size) arg5 (k0_off7 d0) (k0_off7_inb d0) h_S2048x256
  putOp (S := S4096x4096) (sz := S2048x256.size) arg15 harg15 ![0, 0] inb_S2048x256_S2048x256_0_0 h_S2048x256 packedbf16_S2048x256_S2048x256_0_0 (castX s v) arg3 harg3 (k0_off8 d0) (k0_off8_inb d0) (k0_off8_wordsbf16 d0) (semAt4 arg19 0)
  let v ← loadOp (S := S4096x4096) (sz := S2048x256.size) arg5 (k0_off9 d0) (k0_off9_inb d0) h_S2048x256
  putOp (S := S4096x4096) (sz := S2048x256.size) arg16 harg16 ![0, 0] inb_S2048x256_S2048x256_0_0 h_S2048x256 packedbf16_S2048x256_S2048x256_0_0 (castX s v) arg3 harg3 (k0_off10 d0) (k0_off10_inb d0) (k0_off10_wordsbf16 d0) (semAt4 arg19 1)
  let v ← loadOp (S := S4096x8192) (sz := S256x4096.size) arg6 (k0_off11 d0) (k0_off11_inb d0) h_S256x4096
  putOp (S := S4096x8192) (sz := S256x4096.size) arg17 harg17 ![0, 0] inb_S256x4096_S256x4096_0_0 h_S256x4096 packedbf16_S256x4096_S256x4096_0_0 (castW v) arg4 harg4 (k0_off12 d0) (k0_off12_inb d0) (k0_off12_wordsbf16 d0) (semAt4 arg19 2)
  let v ← loadOp (S := S4096x8192) (sz := S256x4096.size) arg6 (k0_off13 d0) (k0_off13_inb d0) h_S256x4096
  putOp (S := S4096x8192) (sz := S256x4096.size) arg18 harg18 ![0, 0] inb_S256x4096_S256x4096_0_0 h_S256x4096 packedbf16_S256x4096_S256x4096_0_0 (castW v) arg4 harg4 (k0_off14 d0) (k0_off14_inb d0) (k0_off14_wordsbf16 d0) (semAt4 arg19 3)

/-- Hop h's four casts, of the pieces that arrived at it; `ft`, `fl`, `fb`, `fr` are the waits for the stages' earlier copies. -/
def casts (d0 : Dev nD) (s : F .f32) (h : Fin 15) (ft fl fb fr : PG F PUnit) : PG F PUnit := do
  let v ← loadOp (S := S4096x4096) (sz := S2048x256.size) arg5 (k0_off15 d0 (BitVec.ofNat 32 h.val)) (k0_off15_inb d0 h) h_S2048x256
  ft
  putOp (S := S4096x4096) (sz := S2048x256.size) arg15 harg15 ![0, 0] inb_S2048x256_S2048x256_0_0 h_S2048x256 packedbf16_S2048x256_S2048x256_0_0 (castX s v) arg3 harg3 (k0_off16 d0 (BitVec.ofNat 32 h.val)) (k0_off16_inb d0 h) (k0_off16_wordsbf16 d0 h) (semAt4 arg19 0)
  let v ← loadOp (S := S4096x8192) (sz := S256x4096.size) arg6 (k0_off17 d0 (BitVec.ofNat 32 h.val)) (k0_off17_inb d0 h) h_S256x4096
  fl
  putOp (S := S4096x8192) (sz := S256x4096.size) arg17 harg17 ![0, 0] inb_S256x4096_S256x4096_0_0 h_S256x4096 packedbf16_S256x4096_S256x4096_0_0 (castW v) arg4 harg4 (k0_off18 d0 (BitVec.ofNat 32 h.val)) (k0_off18_inb d0 h) (k0_off18_wordsbf16 d0 h) (semAt4 arg19 2)
  let v ← loadOp (S := S4096x4096) (sz := S2048x256.size) arg5 (k0_off19 d0 (BitVec.ofNat 32 h.val)) (k0_off19_inb d0 h) h_S2048x256
  fb
  putOp (S := S4096x4096) (sz := S2048x256.size) arg16 harg16 ![0, 0] inb_S2048x256_S2048x256_0_0 h_S2048x256 packedbf16_S2048x256_S2048x256_0_0 (castX s v) arg3 harg3 (k0_off20 d0 (BitVec.ofNat 32 h.val)) (k0_off20_inb d0 h) (k0_off20_wordsbf16 d0 h) (semAt4 arg19 1)
  let v ← loadOp (S := S4096x8192) (sz := S256x4096.size) arg6 (k0_off21 d0 (BitVec.ofNat 32 h.val)) (k0_off21_inb d0 h) h_S256x4096
  fr
  putOp (S := S4096x8192) (sz := S256x4096.size) arg18 harg18 ![0, 0] inb_S256x4096_S256x4096_0_0 h_S256x4096 packedbf16_S256x4096_S256x4096_0_0 (castW v) arg4 harg4 (k0_off22 d0 (BitVec.ofNat 32 h.val)) (k0_off22_inb d0 h) (k0_off22_wordsbf16 d0 h) (semAt4 arg19 3)

/-- The casts of hop 0: the stages' earlier copies are those of the device's own pieces. -/
def castsFst (d0 : Dev nD) (s : F .f32) : PG F PUnit :=
  casts arg3 harg3 arg4 harg4 arg5 arg6 arg15 harg15 arg16 harg16 arg17 harg17 arg18 harg18 arg19 d0 s 0
    (flushOp (S := S4096x4096) (sz := S2048x256.size) arg15 harg15 arg3 harg3 (k0_off8 d0) (k0_off8_inb d0) (k0_off8_wordsbf16 d0) (semAt4 arg19 0))
    (flushOp (S := S4096x8192) (sz := S256x4096.size) arg17 harg17 arg4 harg4 (k0_off12 d0) (k0_off12_inb d0) (k0_off12_wordsbf16 d0) (semAt4 arg19 2))
    (flushOp (S := S4096x4096) (sz := S2048x256.size) arg16 harg16 arg3 harg3 (k0_off10 d0) (k0_off10_inb d0) (k0_off10_wordsbf16 d0) (semAt4 arg19 1))
    (flushOp (S := S4096x8192) (sz := S256x4096.size) arg18 harg18 arg4 harg4 (k0_off14 d0) (k0_off14_inb d0) (k0_off14_wordsbf16 d0) (semAt4 arg19 3))

/-- The casts of a later hop h, p being the hop before. -/
def castsNext (d0 : Dev nD) (s : F .f32) (p h : Fin 15) : PG F PUnit :=
  casts arg3 harg3 arg4 harg4 arg5 arg6 arg15 harg15 arg16 harg16 arg17 harg17 arg18 harg18 arg19 d0 s h
    (flushT arg3 harg3 arg15 harg15 arg19 d0 p) (flushL arg4 harg4 arg17 harg17 arg19 d0 p) (flushB arg3 harg3 arg16 harg16 arg19 d0 p) (flushR arg4 harg4 arg18 harg18 arg19 d0 p)

/-- A hop h in the middle: p is the hop before and n the one after. -/
def hop (d0 : Dev nD) (s : F .f32) (p h n : Fin 15) : PG F PUnit := do
  waits arg5 harg5 arg6 harg6 arg8 arg10 arg12 arg14 d0 h
  sends arg5 harg5 arg6 harg6 arg7 arg8 arg9 arg10 arg11 arg12 arg13 arg14 d0 n
  castsNext arg3 harg3 arg4 harg4 arg5 arg6 arg15 harg15 arg16 harg16 arg17 harg17 arg18 harg18 arg19 d0 s p h

/-- The entry: the barrier with both neighbours, the scale read, the device's own blocks put in place. The scale is the result. -/
def entry (d0 : Dev nD) : PG F (F .f32) := do
  semSignalWord (⟨k0_dev1 d0, k0_dev1_lt d0⟩ : Dev nD) (sig.barrier 0 rfl) 1#32
  semSignalWord (⟨k0_dev2 d0, k0_dev2_lt d0⟩ : Dev nD) (sig.barrier 0 rfl) 1#32
  semWaitWord (sig.barrier 0 rfl) 2#32
  let v13 : Vec F S1x1 .f32 ← Prog.lift (.load arg2 (Rect.unit (s := S1x1) ![0, 0] S1x1.size inb_S1x1_S1x1_0_0).toLoadRect (View.loadsAt_vmem h_S1x1))
  let v15 : Vec F S4096x256 .i8 ← Prog.lift (.load arg0 (Rect.unit (s := S4096x256) ![0, 0] S4096x256.size inb_S4096x256_S4096x256_0_0).toLoadRect (View.loadsAt_vmem h_S4096x256))
  let _ : Vec F S4096x256 .i8 ← Prog.lift (.load arg5 (Rect.unit (s := S4096x4096) (k0_off1 d0) S4096x256.size (k0_off1_inb d0)).toLoadRect (View.loadsAt_vmem h_S4096x256))
  Prog.lift (.store arg5 (Rect.unit (s := S4096x4096) (k0_off1 d0) S4096x256.size (k0_off1_inb d0)) (k0_pay2 v15) Finset.univ (View.stores_vmem h_S4096x256 (harg5.storeExact_slice rfl _ (k0_off1_packedi8 d0)) (fun _ => rfl)) (.inl rfl))
  let v22 : Vec F S256x8192 .i8 ← Prog.lift (.load arg1 (Rect.unit (s := S256x8192) ![0, 0] S256x8192.size inb_S256x8192_S256x8192_0_0).toLoadRect (View.loadsAt_vmem h_S256x8192))
  let _ : Vec F S256x8192 .i8 ← Prog.lift (.load arg6 (Rect.unit (s := S4096x8192) (k0_off2 d0) S256x8192.size (k0_off2_inb d0)).toLoadRect (View.loadsAt_vmem h_S256x8192))
  Prog.lift (.store arg6 (Rect.unit (s := S4096x8192) (k0_off2 d0) S256x8192.size (k0_off2_inb d0)) (k0_pay3 v22) Finset.univ (View.stores_vmem h_S256x8192 (harg6.storeExact_slice rfl _ (k0_off2_packedi8 d0)) (fun _ => rfl)) (.inl rfl))
  pure (k0_pay1 v13)

/-- The whole body, at device d0. -/
def bodyU : PG F PUnit := do
  let d0 ← Prog.lift .deviceId
  let s ← entry arg0 arg1 arg2 arg5 harg5 arg6 harg6 d0
  let S := sends (F := F) arg5 harg5 arg6 harg6 arg7 arg8 arg9 arg10 arg11 arg12 arg13 arg14 d0
  let W := waits (F := F) arg5 harg5 arg6 harg6 arg8 arg10 arg12 arg14 d0
  let E := waits (F := F) arg5 harg5 arg6 harg6 arg7 arg9 arg11 arg13 d0
  let H := hop (F := F) arg3 harg3 arg4 harg4 arg5 harg5 arg6 harg6 arg7 arg8 arg9 arg10 arg11 arg12 arg13 arg14 arg15 harg15 arg16 harg16 arg17 harg17 arg18 harg18 arg19 d0 s
  S 0
  casts0 arg3 harg3 arg4 harg4 arg5 arg6 arg15 harg15 arg16 harg16 arg17 harg17 arg18 harg18 arg19 d0 s
  W 0
  S 1
  castsFst arg3 harg3 arg4 harg4 arg5 arg6 arg15 harg15 arg16 harg16 arg17 harg17 arg18 harg18 arg19 d0 s
  H 0 1 2; H 1 2 3; H 2 3 4; H 3 4 5; H 4 5 6; H 5 6 7; H 6 7 8; H 7 8 9; H 8 9 10; H 9 10 11; H 10 11 12; H 11 12 13; H 12 13 14
  W 14
  castsNext arg3 harg3 arg4 harg4 arg5 arg6 arg15 harg15 arg16 harg16 arg17 harg17 arg18 harg18 arg19 d0 s 13 14
  flushT arg3 harg3 arg15 harg15 arg19 d0 14
  flushB arg3 harg3 arg16 harg16 arg19 d0 14
  flushL arg4 harg4 arg17 harg17 arg19 d0 14
  flushR arg4 harg4 arg18 harg18 arg19 d0 14
  E 0; E 1; E 2; E 3; E 4; E 5; E 6; E 7; E 8; E 9; E 10; E 11; E 12; E 13; E 14

set_option maxRecDepth 65536 in
set_option maxHeartbeats 0 in
/-- The printed body is the uniform program. -/
theorem body_eq : cc0__ag_body (F := F) arg0 harg0 arg1 harg1 arg2 harg2 arg3 harg3 arg4 harg4 arg5 harg5 arg6 harg6 arg7 arg8 arg9 arg10 arg11 arg12 arg13 arg14 arg15 harg15 arg16 harg16 arg17 harg17 arg18 harg18 arg19
    = bodyU arg0 arg1 arg2 arg3 harg3 arg4 harg4 arg5 harg5 arg6 harg6 arg7 arg8 arg9 arg10 arg11 arg12 arg13 arg14 arg15 harg15 arg16 harg16 arg17 harg17 arg18 harg18 arg19 := rfl

end Prog

end Cert.KernelIdeal.Gath
-- ==== Proof.Common.lean ====
/-
  The names the all-gather's proof speaks in: the resource algebra, the ring of sixteen devices, the four streams (top and bottom half of x, left and right half
  of w, each going one way round the ring), the pieces of a stream by the device they come from, and what the gathered arrays and the results hold.
-/
module

public import proofs.«01_k».proof.Proof.Body
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Ring
public import Idealize.ShloMosaic.Lib.Transfers
public import Idealize.ShloMosaic.Lib.Tactic
public import Idealize.ShloMosaic.Lib.Pointwise

@[expose] public section

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's: rounds over the cells, two duty names (a barrier's two payers). -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## The ring -/

/-- Device c's right and left neighbour. -/
def nxt (c : Dev nD) : Dev nD := ⟨(c.val + 1) % 16, Nat.mod_lt _ (by decide)⟩
def prv (c : Dev nD) : Dev nD := ⟨(c.val + 15) % 16, Nat.mod_lt _ (by decide)⟩
theorem prv_nxt (c : Dev nD) : prv (nxt c) = c := by revert c; decide
theorem nxt_prv (c : Dev nD) : nxt (prv c) = c := by revert c; decide

/-- The streams: 0 the top half of x, rightward; 1 its bottom half, leftward; 2 the left half of w, rightward; 3 its right half, leftward. -/
abbrev Str : Type := Fin 4
/-- Whether the stream goes rightward. -/
def rwd (κ : Str) : Bool := κ.val % 2 == 0
/-- The device a stream's copies go to, and the one they come from. -/
def fwd (κ : Str) (c : Dev nD) : Dev nD := if rwd κ then nxt c else prv c
def bwd (κ : Str) (c : Dev nD) : Dev nD := if rwd κ then prv c else nxt c
theorem bwd_fwd (κ : Str) (c : Dev nD) : bwd κ (fwd κ c) = c := by
  unfold bwd fwd; split <;> simp only [prv_nxt, nxt_prv]
theorem fwd_bwd (κ : Str) (c : Dev nD) : fwd κ (bwd κ c) = c := by
  unfold bwd fwd; split <;> simp only [prv_nxt, nxt_prv]

/-- The device the r-th piece of stream κ on device c comes from: c itself, then the devices up the stream. -/
def org (κ : Str) (c : Dev nD) (r : Fin 16) : Dev nD := ⟨(if rwd κ then c.val + 16 - r.val else c.val + r.val) % 16, Nat.mod_lt _ (by decide)⟩
theorem org_zero (κ : Str) (c : Dev nD) : org κ c 0 = c := by revert κ c; decide
theorem org_fwd (κ : Str) (c : Dev nD) (h : Fin 15) : org κ (fwd κ c) h.succ = org κ c h.castSucc := by
  revert κ c h; decide +kernel
/-- The number of the piece that comes from o. -/
def rank (κ : Str) (c o : Dev nD) : Fin 16 := ⟨(if rwd κ then c.val + 16 - o.val else o.val + 16 - c.val) % 16, Nat.mod_lt _ (by decide)⟩
theorem org_rank (κ : Str) (c o : Dev nD) : org κ c (rank κ c o) = o := by revert κ c o; decide +kernel
theorem rank_org (κ : Str) (c : Dev nD) (r : Fin 16) : rank κ c (org κ c r) = r := by revert κ c r; decide +kernel
/-- A stream's pieces on device c, numbered: every device once. -/
def orgE (κ : Str) (c : Dev nD) : Fin 16 ≃ Dev nD := ⟨org κ c, rank κ c, rank_org κ c, org_rank κ c⟩

/-! ## The streams' arrays -/

abbrev sh (W : ℕ) : Shape := ⟨2, ![4096, W]⟩

/-- A stream: the array it fills, the stage its casts go through, the result, and where the piece from each device lies. -/
structure Cls where
  W : ℕ
  sz : Fin 2 → ℕ
  g : Memref sig .tc .vmem (sh W) .i8
  hg : g.IsWhole
  st : Memref sig .tc .vmem ⟨2, sz⟩ .bf16
  hst : st.IsWhole
  o : Memref sig .tc .hbm (sh W) .bf16
  ho : o.IsWhole
  off : Dev nD → Fin 2 → ℕ
  inb : ∀ d a, off d a + sz a ≤ (sh W).size a
  pos : 0 < (⟨2, sz⟩ : Shape).numel

/-- The four streams. -/
def cl : Str → Cls
  | 0 => ⟨4096, S2048x256.size, Memref.whole cc0_scratch0, Memref.isWhole_whole _, Memref.whole cc0_scratch10, Memref.isWhole_whole _, Memref.whole main_v3_0,
      Memref.isWhole_whole _, fun o => ![0, 256 * o.val], by decide, h_S2048x256⟩
  | 1 => ⟨4096, S2048x256.size, Memref.whole cc0_scratch0, Memref.isWhole_whole _, Memref.whole cc0_scratch11, Memref.isWhole_whole _, Memref.whole main_v3_0,
      Memref.isWhole_whole _, fun o => ![2048, 256 * o.val], by decide, h_S2048x256⟩
  | 2 => ⟨8192, S256x4096.size, Memref.whole cc0_scratch1, Memref.isWhole_whole _, Memref.whole cc0_scratch12, Memref.isWhole_whole _, Memref.whole main_v3_1,
      Memref.isWhole_whole _, fun o => ![256 * o.val, 0], by decide, h_S256x4096⟩
  | 3 => ⟨8192, S256x4096.size, Memref.whole cc0_scratch1, Memref.isWhole_whole _, Memref.whole cc0_scratch13, Memref.isWhole_whole _, Memref.whole main_v3_1,
      Memref.isWhole_whole _, fun o => ![256 * o.val, 4096], by decide, h_S256x4096⟩

/-- Stream κ's piece from device o: its rectangle, in the array, in the result. -/
abbrev rect (κ : Str) (o : Dev nD) : Rect (sh (cl κ).W) := Rect.unit (s := sh (cl κ).W) ((cl κ).off o) (cl κ).sz ((cl κ).inb o)
abbrev sl (κ : Str) (o : Dev nD) : Memref sig .tc .vmem ⟨2, (cl κ).sz⟩ .i8 := (cl κ).g.slice (rect κ o) (fun _ => rfl)
abbrev osl (κ : Str) (o : Dev nD) : Memref sig .tc .hbm ⟨2, (cl κ).sz⟩ .bf16 := (cl κ).o.slice (rect κ o) (fun _ => rfl)

/-! ## The semaphores -/

/-- Stream κ's send and receive semaphores of hop h, and the semaphore of its local copies. -/
def sendSem (κ : Str) (h : Fin 15) : DmaSem sig := ⟨3 + 30 * κ.val + h.val, by have := κ.isLt; have := h.isLt; show _ < 133; omega⟩
def recvSem (κ : Str) (h : Fin 15) : DmaSem sig := ⟨18 + 30 * κ.val + h.val, by have := κ.isLt; have := h.isLt; show _ < 133; omega⟩
def locSem (κ : Str) : DmaSem sig := ⟨123 + κ.val, by have := κ.isLt; show _ < 133; omega⟩

theorem semAt7 (h : Fin 15) : semAt cc0_scratch2 h = sendSem 0 h := by revert h; decide
theorem semAt8 (h : Fin 15) : semAt cc0_scratch3 h = recvSem 0 h := by revert h; decide
theorem semAt9 (h : Fin 15) : semAt cc0_scratch4 h = sendSem 1 h := by revert h; decide
theorem semAt10 (h : Fin 15) : semAt cc0_scratch5 h = recvSem 1 h := by revert h; decide
theorem semAt11 (h : Fin 15) : semAt cc0_scratch6 h = sendSem 2 h := by revert h; decide
theorem semAt12 (h : Fin 15) : semAt cc0_scratch7 h = recvSem 2 h := by revert h; decide
theorem semAt13 (h : Fin 15) : semAt cc0_scratch8 h = sendSem 3 h := by revert h; decide
theorem semAt14 (h : Fin 15) : semAt cc0_scratch9 h = recvSem 3 h := by revert h; decide
theorem semAt19 (κ : Str) : semAt4 cc0_scratch14 κ = locSem κ := by revert κ; decide

/-! ## What the arrays hold -/

/-- What the call reads: every device's blocks of x and of w, and its scale. -/
structure Inp (F : FTy → Type) where
  x : Dev nD → S4096x256.Idx → Elt F .i8
  w : Dev nD → S256x8192.Idx → Elt F .i8
  s : Dev nD → F .f32

/-- The gathered x: column j is column j mod 256 of device j / 256's block. -/
def gX (I : Inp F) : S4096x4096.Idx → Elt F .i8 := fun i =>
  I.x ⟨(i 1).val / 256, by have : (i 1).val < 4096 := (i 1).isLt; show _ < 16; omega⟩ (ix2 (n0 := 4096) (n1 := 256) (i 0) ⟨(i 1).val % 256, Nat.mod_lt _ (by decide)⟩)
/-- The gathered w: row i is row i mod 256 of device i / 256's block. -/
def gW (I : Inp F) : S4096x8192.Idx → Elt F .i8 := fun i =>
  I.w ⟨(i 0).val / 256, by have : (i 0).val < 4096 := (i 0).isLt; show _ < 16; omega⟩ (ix2 (n0 := 256) (n1 := 8192) ⟨(i 0).val % 256, Nat.mod_lt _ (by decide)⟩ (i 1))

/-- One number's cast: of x, times the scale; of w. -/
def castX1 (s : F .f32) (v : BitVec 8) : F .bf16 := truncf (s := S1x1) .bf16 (mulf (sitofp .f32 (fun _ => v)) (broadcast S1x1 s)) bitsLt_bf16_f32 (ix2 (n0 := 1) (n1 := 1) 0 0)
def castW1 (v : BitVec 8) : F .bf16 := sitofp (s := S1x1) .bf16 (fun _ => v) (ix2 (n0 := 1) (n1 := 1) 0 0)

/-- The two results: the casts of the gathered arrays. -/
def gXB (I : Inp F) (c : Dev nD) : S4096x4096.Idx → Elt F .bf16 := fun i => castX1 (I.s c) (gX I i)
def gWB (I : Inp F) : S4096x8192.Idx → Elt F .bf16 := fun i => castW1 (gW I i)

/-- The same by stream. -/
def gath (I : Inp F) : (κ : Str) → (c : Dev nD) → Buf (Elt F) ((cl κ).g.view.loc (c : Thread nD τ))
  | 0, _ => gX I
  | 1, _ => gX I
  | 2, _ => gW I
  | 3, _ => gW I
def outG (I : Inp F) : (κ : Str) → (c : Dev nD) → Buf (Elt F) ((cl κ).o.view.loc (c : Thread nD τ))
  | 0, c => gXB I c
  | 1, c => gXB I c
  | 2, _ => gWB I
  | 3, _ => gWB I
/-- What a cast does to a piece. -/
def castK (I : Inp F) (c : Dev nD) : (κ : Str) → Vec F ⟨2, (cl κ).sz⟩ .i8 → Vec F ⟨2, (cl κ).sz⟩ .bf16
  | 0 => castX (I.s c)
  | 1 => castX (I.s c)
  | 2 => castW
  | 3 => castW

theorem castX_apply (s : F .f32) (v : Vec F S2048x256 .i8) (j : S2048x256.Idx) : castX s v j = castX1 s (v j) := by
  unfold castX k0_pay4; rw [shapeCast_id]; rfl
theorem castW_apply (v : Vec F S256x4096 .i8) (j : S256x4096.Idx) : castW (F := F) v j = castW1 (v j) := by
  unfold castW k0_pay8; rw [shapeCast_id]; rfl

/-- The result, read at a piece, is the cast of the gathered array there. -/
theorem outG_read (I : Inp F) (κ : Str) (c o : Dev nD) :
    (osl κ o).view.read (Elt F) (outG I κ c) = castK I c κ ((sl κ o).view.read (Elt F) (gath I κ c)) := by
  funext j
  match κ with
  | 0 => exact (castX_apply (F := F) (I.s c) ((sl 0 o).view.read (Elt F) (gath I 0 c)) j).symm
  | 1 => exact (castX_apply (F := F) (I.s c) ((sl 1 o).view.read (Elt F) (gath I 1 c)) j).symm
  | 2 => exact (castW_apply (F := F) ((sl 2 o).view.read (Elt F) (gath I 2 c)) j).symm
  | 3 => exact (castW_apply (F := F) ((sl 3 o).view.read (Elt F) (gath I 3 c)) j).symm

/-! ## Pieces held -/

/-- Device c's piece from o of stream κ's array, at the gathered contents, at share q; at some contents. -/
def pieceAt (I : Inp F) (κ : Str) (q : PosShare TreeShare) (c o : Dev nD) : sProp 𝕄 :=
  (sl κ o).view.loc (c : Thread nD τ) ↦[(sl κ o).view.set]{q} gath I κ c
def pieceAny (κ : Str) (c o : Dev nD) : sProp 𝕄 :=
  iprop(∃ f, (sl κ o).view.loc (c : Thread nD τ) ↦[(sl κ o).view.set]{fullShare} f)
/-- Device c's piece from o of stream κ's result, at the cast contents; at some contents. -/
def outAt (I : Inp F) (κ : Str) (c o : Dev nD) : sProp 𝕄 :=
  (osl κ o).view.loc (c : Thread nD τ) ↦[(osl κ o).view.set]{fullShare} outG I κ c
def outAny (κ : Str) (c o : Dev nD) : sProp 𝕄 :=
  iprop(∃ f, (osl κ o).view.loc (c : Thread nD τ) ↦[(osl κ o).view.set]{fullShare} f)

instance (I : Inp F) (κ : Str) (q : PosShare TreeShare) (c o : Dev nD) : BI.Storable (upEmb : UEmb _ 𝕄) (pieceAt I κ q c o) := by unfold pieceAt; infer_instance
instance (κ : Str) (c o : Dev nD) : BI.Storable (upEmb : UEmb _ 𝕄) (pieceAny (F := F) κ c o) := by unfold pieceAny; infer_instance

/-- What a copy of one device's piece writes on another is the gathered contents there. -/
theorem copied (I : Inp F) (κ : Str) (c c' o : Dev nD) (fd : Buf (Elt F) ((sl κ o).view.loc (c' : Thread nD τ))) :
    ((sl κ o).view.loc (c' : Thread nD τ) ↦[(sl κ o).view.set]{fullShare} ((sl κ o).view.write (Elt F) fd ((sl κ o).view.read (Elt F) (gath I κ c)) Finset.univ) : sProp 𝕄)
      = pieceAt I κ fullShare c' o := by
  unfold pieceAt
  refine pointsTo_congr fun i hi => ?_
  rw [show gath I κ c' = gath I κ c from by match κ with | 0 => rfl | 1 => rfl | 2 => rfl | 3 => rfl]
  rw [View.write_read_eq_piecewise, View.setOn_univ]
  exact Finset.piecewise_eq_of_mem _ _ _ hi

end Cert.KernelIdeal.Gath
-- ==== Proof.Sched.lean ====
/-
  The protocol of the all-gather: which duty each semaphore cell has, what each pays, what a core owes and waits for, and the levels that order the waits.
  Each device's barrier cell has two duties, one per neighbour: the right neighbour pays with its places for the rightward streams' pieces, the left one with its
  places for the leftward streams'. Each send cell pays half of the piece sent back, each receive cell the piece that arrived.
-/
module

public import proofs.«01_k».proof.Proof.Common

@[expose] public section

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

abbrev barS : Sem sig := sig.barrier 0 rfl
abbrev cellB (c : Dev nD) : GSem nD τ sig := ((c : Thread nD τ), .reg barS)
abbrev cellS (c : Dev nD) (κ : Str) (h : Fin 15) : GSem nD τ sig := ((c : Thread nD τ), .dma (sendSem κ h))
abbrev cellR (c : Dev nD) (κ : Str) (h : Fin 15) : GSem nD τ sig := ((c : Thread nD τ), .dma (recvSem κ h))

/-- A ring semaphore, its stream, its hop, and whether it is a send semaphore. -/
def isRing (s : DmaSem sig) : Prop := 3 ≤ s.val ∧ s.val < 123
instance (s : DmaSem sig) : Decidable (isRing s) := by unfold isRing; infer_instance
def dStr (s : DmaSem sig) : Str := ⟨(s.val - 3) / 30 % 4, Nat.mod_lt _ (by decide)⟩
def dHop (s : DmaSem sig) : Fin 15 := ⟨(s.val - 3) % 15, Nat.mod_lt _ (by decide)⟩
def isSend (s : DmaSem sig) : Prop := (s.val - 3) % 30 < 15
instance (s : DmaSem sig) : Decidable (isSend s) := by unfold isSend; infer_instance

theorem ring_send (κ : Str) (h : Fin 15) : isRing (sendSem κ h) := by revert κ h; decide +kernel
theorem ring_recv (κ : Str) (h : Fin 15) : isRing (recvSem κ h) := by revert κ h; decide +kernel
theorem str_send (κ : Str) (h : Fin 15) : dStr (sendSem κ h) = κ := by revert κ h; decide +kernel
theorem str_recv (κ : Str) (h : Fin 15) : dStr (recvSem κ h) = κ := by revert κ h; decide +kernel
theorem hop_send (κ : Str) (h : Fin 15) : dHop (sendSem κ h) = h := by revert κ h; decide +kernel
theorem hop_recv (κ : Str) (h : Fin 15) : dHop (recvSem κ h) = h := by revert κ h; decide +kernel
theorem send_send (κ : Str) (h : Fin 15) : isSend (sendSem κ h) := by revert κ h; decide +kernel
theorem send_recv (κ : Str) (h : Fin 15) : ¬ isSend (recvSem κ h) := by revert κ h; decide +kernel
theorem loc_not_ring (κ : Str) : ¬ isRing (locSem κ) := by revert κ; decide +kernel

/-! ## The schedule -/

/-- A copy's credit, the same for all pieces of a stream. -/
def NN (κ : Str) : ℕ := (sl κ 0).view.dmaCredit
theorem NN_pos (κ : Str) : 0 < NN κ := View.dmaCredit_pos _ (cl κ).pos
theorem NN_eq (κ : Str) (o : Dev nD) : (sl κ o).view.dmaCredit = NN κ := rfl

/-- What the neighbour that stream κ of device c goes to hands it: its places for the pieces c sends it, and that its receive cells are open. -/
def barPay (κ : Str) (c : Dev nD) : sProp 𝕄 :=
  bigSep Finset.univ fun h : Fin 15 => iprop(pieceAny κ (fwd κ c) (org κ c h.castSucc) ∗ reached ER (cellR (fwd κ c) κ h) 0)

/-- The schedule: one round. -/
def Rd (I : Inp F) : Rounds.Schedule (GSem nD τ sig) Bool 𝕄 where
  duties g r := if r = 0 ∧ g.1.2 = .tc then (match g.2 with | .reg _ => Finset.univ | .dma s => if isRing s then {false} else ∅) else ∅
  unitless _ := False
  amount g _ _ := match g.2 with | .reg _ => 1 | .dma s => NN (dStr s)
  payload g _ d := match g.2 with
    | .reg _ => match d with | false => iprop(barPay 0 g.1.1 ∗ barPay 2 g.1.1) | true => iprop(barPay 1 g.1.1 ∗ barPay 3 g.1.1)
    | .dma s => if isSend s then pieceAt I (dStr s) fullShare.left g.1.1 (org (dStr s) g.1.1 (dHop s).castSucc)
        else pieceAt I (dStr s) fullShare g.1.1 (org (dStr s) g.1.1 (dHop s).succ)
  amount_pos g _ _ _ := by
    rcases g with ⟨t, s | s⟩
    · exact Nat.one_pos
    · exact NN_pos _

instance (κ : Str) (c : Dev nD) : BI.Storable (upEmb : UEmb _ 𝕄) (barPay (F := F) κ c) := by unfold barPay; infer_instance
instance Rd_storable (I : Inp F) (g : GSem nD τ sig) (r : ℕ) (d : Bool) : BI.Storable (upEmb : UEmb _ 𝕄) ((Rd I).payload g r d) := by
  rcases g with ⟨t, s | s⟩
  · cases d
    · show BI.Storable upEmb (iprop(barPay 0 t.1 ∗ barPay 2 t.1) : sProp 𝕄); infer_instance
    · show BI.Storable upEmb (iprop(barPay 1 t.1 ∗ barPay 3 t.1) : sProp 𝕄); infer_instance
  · show BI.Storable upEmb (if isSend s then pieceAt I (dStr s) fullShare.left t.1 (org (dStr s) t.1 (dHop s).castSucc)
        else pieceAt I (dStr s) fullShare t.1 (org (dStr s) t.1 (dHop s).succ) : sProp 𝕄)
    split <;> infer_instance

section Facts
variable (I : Inp F) (c : Dev nD) (κ : Str) (h : Fin 15)

theorem duties_bar : (Rd I).duties (cellB c) 0 = Finset.univ := rfl
theorem duties_send : (Rd I).duties (cellS c κ h) 0 = {false} := by
  show (if isRing (sendSem κ h) then ({false} : Finset Bool) else ∅) = _; exact if_pos (ring_send κ h)
theorem duties_recv : (Rd I).duties (cellR c κ h) 0 = {false} := by
  show (if isRing (recvSem κ h) then ({false} : Finset Bool) else ∅) = _; exact if_pos (ring_recv κ h)
theorem duties_later (g : GSem nD τ sig) : ∀ r, 0 + 1 ≤ r → (Rd I).duties g r = ∅ := fun r hr => by
  dsimp only [Rd]; exact if_neg (fun h => by omega)
theorem amount_bar (d : Bool) : (Rd I).amount (cellB c) 0 d = 1 := rfl
theorem amount_send (d : Bool) : (Rd I).amount (cellS c κ h) 0 d = NN κ := congrArg NN (str_send κ h)
theorem amount_recv (d : Bool) : (Rd I).amount (cellR c κ h) 0 d = NN κ := congrArg NN (str_recv κ h)
theorem expect_bar : (Rd I).expect (cellB c) 0 = 2 := by
  unfold Schedule.expect Schedule.amountOf; rw [duties_bar]; rfl
theorem expect_send : (Rd I).expect (cellS c κ h) 0 = NN κ := by
  unfold Schedule.expect Schedule.amountOf; rw [duties_send, Finset.sum_singleton, amount_send]
theorem expect_recv : (Rd I).expect (cellR c κ h) 0 = NN κ := by
  unfold Schedule.expect Schedule.amountOf; rw [duties_recv, Finset.sum_singleton, amount_recv]
theorem payload_bar_false : (Rd I).payload (cellB c) 0 false = iprop(barPay 0 c ∗ barPay 2 c) := rfl
theorem payload_bar_true : (Rd I).payload (cellB c) 0 true = iprop(barPay 1 c ∗ barPay 3 c) := rfl
theorem payload_send (d : Bool) : (Rd I).payload (cellS c κ h) 0 d = pieceAt I κ fullShare.left c (org κ c h.castSucc) := by
  show (if isSend (sendSem κ h) then pieceAt I (dStr (sendSem κ h)) fullShare.left c (org (dStr (sendSem κ h)) c (dHop (sendSem κ h)).castSucc)
        else pieceAt I (dStr (sendSem κ h)) fullShare c (org (dStr (sendSem κ h)) c (dHop (sendSem κ h)).succ) : sProp 𝕄) = _
  rw [if_pos (send_send κ h), str_send, hop_send]
theorem payload_recv (d : Bool) : (Rd I).payload (cellR c κ h) 0 d = pieceAt I κ fullShare c (org κ c h.succ) := by
  show (if isSend (recvSem κ h) then pieceAt I (dStr (recvSem κ h)) fullShare.left c (org (dStr (recvSem κ h)) c (dHop (recvSem κ h)).castSucc)
        else pieceAt I (dStr (recvSem κ h)) fullShare c (org (dStr (recvSem κ h)) c (dHop (recvSem κ h)).succ) : sProp 𝕄) = _
  rw [if_neg (send_recv κ h), str_recv, hop_recv]
theorem rest_bar : bigSep ((Rd I).duties (cellB c) 0 \ ∅) (fun d => (Rd I).payload (cellB c) 0 d) = iprop((barPay 0 c ∗ barPay 2 c) ∗ (barPay 1 c ∗ barPay 3 c)) := by
  rw [Finset.sdiff_empty, duties_bar, bigSep_univ_eq_bigSepL [false, true] (by decide) (by decide), bigSepL_cons_cons, bigSepL_singleton,
    payload_bar_false, payload_bar_true]
  rfl
theorem rest_send : bigSep ((Rd I).duties (cellS c κ h) 0 \ ∅) (fun d => (Rd I).payload (cellS c κ h) 0 d) = pieceAt I κ fullShare.left c (org κ c h.castSucc) := by
  rw [Finset.sdiff_empty, duties_send, bigSep_singleton, payload_send]
theorem rest_recv : bigSep ((Rd I).duties (cellR c κ h) 0 \ ∅) (fun d => (Rd I).payload (cellR c κ h) 0 d) = pieceAt I κ fullShare c (org κ c h.succ) := by
  rw [Finset.sdiff_empty, duties_recv, bigSep_singleton, payload_recv]

end Facts

/-! ## What a core owes; the levels -/

/-- What one copy pays: the receive credit of its target. -/
def due (c : Dev nD) (h : Fin 15) (κ : Str) : CellTallies nD τ sig Unit := tallyAt (cellR (fwd κ c) κ h) () (NN κ)
/-- What device c owes before hop n's copies. -/
def owe (c : Dev nD) (n : ℕ) : CellTallies nD τ sig Unit :=
  ∑ h ∈ Finset.univ.filter (fun h : Fin 15 => n ≤ h.val), (due c h 3 + due c h 2 + due c h 1 + due c h 0)
/-- What it owes at launch: the hops' credits and one unit on each neighbour's barrier. -/
def owe0 (c : Dev nD) : CellTallies nD τ sig Unit := owe c 0 + tallyAt (cellB (nxt c)) () 1 + tallyAt (cellB (prv c)) () 1

theorem owe_step (c : Dev nD) (h : Fin 15) : owe c h.val = owe c (h.val + 1) + due c h 3 + due c h 2 + due c h 1 + due c h 0 := by
  unfold owe
  have e : Finset.univ.filter (fun k : Fin 15 => h.val ≤ k.val) = insert h (Finset.univ.filter (fun k : Fin 15 => h.val + 1 ≤ k.val)) := by
    ext k
    simp only [Finset.mem_filter, Finset.mem_univ, true_and, Finset.mem_insert, Fin.ext_iff]; omega
  rw [e, Finset.sum_insert (by simp only [Finset.mem_filter, Finset.mem_univ, true_and]; omega), add_comm, ← add_assoc, ← add_assoc, ← add_assoc]
theorem owe_end (c : Dev nD) : owe c 15 = 0 := by
  unfold owe
  rw [Finset.filter_false_of_mem (fun k _ => by have := k.isLt; omega), Finset.sum_empty]

/-- What is owed before hop n is owed to receive cells of hops from n on. -/
theorem owe_at (c : Dev nD) (n : ℕ) (g : GSem nD τ sig) (u : Unit) (hg : 0 < owe c n g u) :
    ∃ (h : Fin 15) (κ : Str), n ≤ h.val ∧ g = cellR (fwd κ c) κ h := by
  by_contra hno
  have z : ∀ (h : Fin 15) (κ : Str), n ≤ h.val → due c h κ g u = 0 := fun h κ hn => by
    unfold due; rw [tallyAt_apply]; exact if_neg (fun e => hno ⟨h, κ, hn, e.1⟩)
  have : owe c n g u = 0 := by
    unfold owe
    rw [Finset.sum_apply, Finsupp.finset_sum_apply]
    refine Finset.sum_eq_zero fun h hh => ?_
    have hn := (Finset.mem_filter.mp hh).2
    simp only [Pi.add_apply, Finsupp.add_apply, z h _ hn, add_zero]
  omega

def LL (g : GSem nD τ sig) : Finset Unit := if g.1.2 = .tc then {()} else ∅
theorem LL_tc (c : Dev nD) (sm : SemLoc sig) : LL ((c : Thread nD τ), sm) = {()} := if_pos rfl
theorem LL_of_ne (g : GSem nD τ sig) (h : g.1.2 ≠ .tc) : LL g = ∅ := if_neg h

/-- Barrier cells at 1, the receive cells of hop h at 2 + h, all others at 0. -/
def lv (g : GSem nD τ sig) (_ : Unit) : ℕ := match g.2 with | .reg _ => 1 | .dma s => if isRing s ∧ ¬ isSend s then 2 + (dHop s).val else 0

theorem lv_bar (c : Dev nD) : lv (cellB c) () = 1 := rfl
theorem lv_recv (c : Dev nD) (κ : Str) (h : Fin 15) : lv (cellR c κ h) () = 2 + h.val := by
  show (if isRing (recvSem κ h) ∧ ¬ isSend (recvSem κ h) then 2 + (dHop (recvSem κ h)).val else 0) = _
  rw [if_pos ⟨ring_recv κ h, send_recv κ h⟩, hop_recv]
theorem lv_send (c : Dev nD) (κ : Str) (h : Fin 15) : lv (cellS c κ h) () = 0 := by
  show (if isRing (sendSem κ h) ∧ ¬ isSend (sendSem κ h) then 2 + (dHop (sendSem κ h)).val else 0) = _
  exact if_neg (fun e => e.2 (send_send κ h))
theorem lv_loc (c : Dev nD) (κ : Str) : lv ((c : Thread nD τ), .dma (locSem κ)) () = 0 := by
  show (if isRing (locSem κ) ∧ ¬ isSend (locSem κ) then 2 + (dHop (locSem κ)).val else 0) = _
  exact if_neg (fun e => loc_not_ring κ e.1)

/-- The record of the levels. -/
def levs : sProp 𝕄 := levAts LL lv
instance : BI.Persistent (levs (F := F)) := by unfold levs; infer_instance

/-- A wait on a cell below the receive cells of hop n, by a core that owes hops n and later. -/
theorem mayWait (c : Dev nD) (sm : SemLoc sig) (n : ℕ) (hlv : lv ((c : Thread nD τ), sm) () < 2 + n) :
    levs (F := F) ⊢ MayWait (c : Thread nD τ) sm () (owe c n) :=
  MayOwe.of_cut (L := LL) (lev := lv) (lv ((c : Thread nD τ), sm) ()) (fun p hp => by rw [Finset.mem_singleton.mp hp, LL_tc]; exact Finset.mem_singleton_self _)
    (fun g u hg => by
      obtain ⟨h, κ, -, rfl⟩ := owe_at c n g u hg
      rw [LL_tc]; exact Finset.mem_singleton_self _)
    (fun p hp => by rw [Finset.mem_singleton.mp hp])
    (fun g u hg => by
      obtain ⟨h, κ, hn, rfl⟩ := owe_at c n g u hg
      rw [lv_recv]; omega)

/-- What a core owes, whatever it has waited on. -/
def ow (c : Dev nD) (O : CellTallies nD τ sig Unit) : sProp 𝕄 := iprop(∃ W, owes (c : Thread nD τ) O W)

/-! ## Invariants -/

/-- The ring cells of all devices: device, stream, receive or send, hop. -/
abbrev DI : Type := Dev nD × Str × Bool × Fin 15
def ringSem (κ : Str) (b : Bool) (h : Fin 15) : DmaSem sig := bif b then recvSem κ h else sendSem κ h
def dcell (i : DI) : GSem nD τ sig := ((i.1 : Thread nD τ), .dma (ringSem i.2.1 i.2.2.1 i.2.2.2))
theorem ringSem_inj : Function.Injective fun i : Str × Bool × Fin 15 => ringSem i.1 i.2.1 i.2.2 := by
  intro i j; revert i j; decide +kernel
theorem dcell_inj : Function.Injective dcell := fun i j e => by
  have e1 : i.1 = j.1 := congrArg (fun g : GSem nD τ sig => g.1.1) e
  have e2 : i.2 = j.2 := ringSem_inj (SemLoc.dma.inj (congrArg (fun g : GSem nD τ sig => g.2) e))
  exact Prod.ext e1 e2
def dcellE : DI ↪ GSem nD τ sig := ⟨dcell, dcell_inj⟩
def bcellE : Dev nD ↪ GSem nD τ sig := ⟨cellB, fun i j e => congrArg (fun g : GSem nD τ sig => g.1.1) e⟩

/-- Every cell's invariant, and that every barrier cell is open. -/
def records (I : Inp F) (K : GSem nD τ sig → ℕ) : sProp 𝕄 :=
  iprop((bigSep Finset.univ fun c : Dev nD => cellInv ER (Rd I) (K (cellB c)) (cellB c))
    ∗ (bigSep Finset.univ fun i : DI => cellInv ER (Rd I) (K (dcell i)) (dcell i))
    ∗ (bigSep Finset.univ fun c : Dev nD => reached ER (cellB c) 0) ∗ levs (F := F))
instance (I : Inp F) (K : GSem nD τ sig → ℕ) : BI.Persistent (records I K) := by unfold records; infer_instance

omit [FloatOps F] in
/-- One member of a family. -/
theorem elim_at {J : Type} [Fintype J] [DecidableEq J] (Φ : J → sProp 𝕄) (j : J) : (bigSep Finset.univ Φ : sProp 𝕄) ⊢ Φ j := bigSep_elim (Finset.mem_univ j)

section Rec
variable (I : Inp F) (K : GSem nD τ sig → ℕ)

theorem rec_bar (c : Dev nD) : records I K ⊢ cellInv ER (Rd I) (K (cellB c)) (cellB c) := by
  unfold records; iintro ⟨H, -⟩
  iapply (elim_at (fun c : Dev nD => cellInv ER (Rd I) (K (cellB c)) (cellB c)) c); iexact H
theorem rec_d (i : DI) : records I K ⊢ cellInv ER (Rd I) (K (dcell i)) (dcell i) := by
  unfold records; iintro ⟨-, H, -⟩
  iapply (elim_at (fun i : DI => cellInv ER (Rd I) (K (dcell i)) (dcell i)) i); iexact H
theorem rec_send (c : Dev nD) (κ : Str) (h : Fin 15) : records I K ⊢ cellInv ER (Rd I) (K (cellS c κ h)) (cellS c κ h) := rec_d I K (c, κ, false, h)
theorem rec_recv (c : Dev nD) (κ : Str) (h : Fin 15) : records I K ⊢ cellInv ER (Rd I) (K (cellR c κ h)) (cellR c κ h) := rec_d I K (c, κ, true, h)
theorem rec_open (c : Dev nD) : records I K ⊢ (reached ER (cellB c) 0 : sProp 𝕄) := by
  unfold records; iintro ⟨-, -, H, -⟩
  iapply (elim_at (fun c : Dev nD => (reached ER (cellB c) 0 : sProp 𝕄)) c); iexact H
/-- A wait below the receive cells of hop n, from the record. -/
theorem may (c : Dev nD) (sm : SemLoc sig) (n : ℕ) (hlv : lv ((c : Thread nD τ), sm) () < 2 + n) :
    records I K ⊢ MayWait (c : Thread nD τ) sm () (owe c n) := by
  unfold records; iintro ⟨-, -, -, H⟩
  iapply (mayWait (F := F) c sm n hlv); iexact H

/-- A cell whose round is over gives its counter back, at zero. -/
theorem close (g : GSem nD τ sig) : iprop(cellInv ER (Rd I) (K g) g ∗ atPos ER g (0 + 1) ∅ 0) ⊢ (|={Set.univ}=> semVal g 0 : sProp 𝕄) :=
  Rounds.cell_close ER (Rd I) (Set.mem_univ _) id (duties_later I g)

end Rec

/-! ## Progress through a numbered family -/

/-- Of a numbered family, the first n members in state A, the others in state B. -/
def prog {k : ℕ} (n : ℕ) (A B : Fin k → sProp 𝕄) : sProp 𝕄 := bigSep Finset.univ fun h : Fin k => if h.val < n then A h else B h
theorem prog_zero {k : ℕ} (A B : Fin k → sProp 𝕄) : prog 0 A B = bigSep Finset.univ B :=
  bigSep_congr fun h _ => if_neg (Nat.not_lt_zero _)
theorem prog_full {k : ℕ} (A B : Fin k → sProp 𝕄) : prog k A B = bigSep Finset.univ A :=
  bigSep_congr fun h _ => if_pos h.isLt
theorem prog_step {k : ℕ} (A B : Fin k → sProp 𝕄) (h : Fin k) : prog h.val A B ⊢ iprop(B h ∗ (A h -∗ prog (h.val + 1) A B)) := by
  have := bigSep_univ_update (Φ := fun j : Fin k => if j.val < h.val then A j else B j) (Ψ := fun j : Fin k => if j.val < h.val + 1 then A j else B j) h
    (fun j hj => by
      have : j.val ≠ h.val := fun e => hj (Fin.ext e)
      by_cases hl : j.val < h.val
      · rw [if_pos hl, if_pos (by omega)]
      · rw [if_neg hl, if_neg (by omega)])
  rw [if_neg (lt_irrefl _), if_pos (Nat.lt_succ_self _)] at this
  exact this

end Cert.KernelIdeal.Gath
-- ==== Proof.Steps.lean ====
/-
  One operation of the all-gather at a time, for any stream and any hop: the copy to the neighbour, the wait for what arrives, the cast into the stage with its
  copy out, the wait for that copy, the wait for what has left. Each rule says what of the stream's state the operation takes and what it leaves.
-/
module

public import proofs.«01_k».proof.Proof.Sched

@[expose] public section

set_option maxRecDepth 8000

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- The logic of device c's core, for programs of the kernel. -/
abbrev WP (c : Dev nD) {α : Type} (p : PG F α) (Q : α → sProp 𝕄) : sProp 𝕄 := wp frame (wpE (defs₀ (F := F)) 𝒱₀ (c : Thread nD τ) none) Set.univ p Q

/-! ## A stream's state -/

section State
variable (I : Inp F) (κ : Str) (c : Dev nD)

/-- Before hop h's copy: the duties it pays, its target place; after it: the credit that waits for it; after that wait: the source's half back. -/
def ToSend (h : Fin 15) : sProp 𝕄 :=
  iprop(dutyTok ER (cellS c κ h) 0 false ∗ dutyTok ER (cellR (fwd κ c) κ h) 0 false ∗ reached ER (cellS c κ h) 0 ∗ reached ER (cellR (fwd κ c) κ h) 0
    ∗ pieceAny κ (fwd κ c) (org κ c h.castSucc) ∗ atPos ER (cellS c κ h) 0 ∅ 0)
def Sent (h : Fin 15) : sProp 𝕄 := iprop(cred (tallyAt (cellS c κ h) () (NN κ)) ∗ atPos ER (cellS c κ h) 0 ∅ 0)
def SentDone (h : Fin 15) : sProp 𝕄 := iprop(semVal (cellS c κ h) 0 ∗ pieceAt I κ fullShare.left c (org κ c h.castSucc))
/-- Before hop h's arrival is waited for; after. -/
def RecvTodo (h : Fin 15) : sProp 𝕄 := iprop(cred (tallyAt (cellR c κ h) () (NN κ)) ∗ atPos ER (cellR c κ h) 0 ∅ 0)
def RecvDone (h : Fin 15) : sProp 𝕄 := semVal (cellR c κ h) 0
/-- Before piece r's cast: its place in the result; after: that place at the cast contents, and the half of the source it was read from. -/
def CastTodo (r : Fin 16) : sProp 𝕄 := outAny κ c (org κ c r)
def CastDone (r : Fin 16) : sProp 𝕄 := iprop(outAt I κ c (org κ c r) ∗ pieceAt I κ fullShare.right c (org κ c r))

/-- The first n copies begun; the first n arrivals had; the first n departures had. -/
def SendSt (n : ℕ) : sProp 𝕄 := prog n (Sent κ c) (ToSend κ c)
def RecvSt (n : ℕ) : sProp 𝕄 := prog n (RecvDone (F := F) κ c) (RecvTodo κ c)
def DoneSt (n : ℕ) : sProp 𝕄 := prog n (SentDone I κ c) (Sent κ c)
def CastSt (n : ℕ) : sProp 𝕄 := prog n (CastDone I κ c) (CastTodo κ c)

/-- The stage, free. -/
def stageAny : sProp 𝕄 := iprop(∃ f, (cl κ).st.view.loc (c : Thread nD τ) ↦[(cl κ).st.view.set]{fullShare} f)
abbrev cellL : GSem nD τ sig := ((c : Thread nD τ), .dma (locSem κ))
/-- The first n casts done and out, the stage free. -/
def Idle (n : ℕ) : sProp 𝕄 := iprop(CastSt I κ c n ∗ stageAny κ c ∗ semVal (cellL κ c) 0)
/-- Piece r's cast on its way out of the stage, the ones before it out. -/
def Pend (r : Fin 16) : sProp 𝕄 :=
  iprop(∃ fs : Buf (Elt F) ((cl κ).st.view.loc (c : Thread nD τ)), Flight EC (c : Thread nD τ) (.dma (locSem κ)) () (NN' κ)
      iprop(outAt I κ c (org κ c r) ∗ (cl κ).st.view.loc (c : Thread nD τ) ↦[(cl κ).st.view.set]{fullShare} fs)
    ∗ pieceAt I κ fullShare.right c (org κ c r) ∗ (CastDone I κ c r -∗ CastSt I κ c (r.val + 1)))
where
  /-- A copy's credit out of the stage. -/
  NN' (κ : Str) : ℕ := (osl κ 0).view.dmaCredit

end State

theorem NN'_pos (κ : Str) : 0 < Pend.NN' κ := View.dmaCredit_pos _ (cl κ).pos

theorem halves (I : Inp F) (κ : Str) (c o : Dev nD) :
    (pieceAt I κ fullShare c o : sProp 𝕄) ⊣⊢ iprop(pieceAt I κ fullShare.left c o ∗ pieceAt I κ fullShare.right c o) := by
  unfold pieceAt; exact pointsTo_share (PosShare.mem_left_op_right fullShare)

/-! ## The operations -/

section Ops

variable (I : Inp F) (K : GSem nD τ sig → ℕ) (κ : Str) (c : Dev nD)

/-- The copy of piece h to the neighbour. -/
theorem send_step {α : Type} (kk : PUnit → PG F α) (Q : α → sProp 𝕄) (h : Fin 15) {off : Fin 2 → ℕ} {inb : ∀ a, off a + (cl κ).sz a ≤ (sh (cl κ).W).size a}
    {ww : (Rect.unit (s := sh (cl κ).W) off (cl κ).sz inb).WholeWords (EltTy.packing .i8)} {d : Dev nD} {s r : DmaSem sig}
    (hoff : off = (cl κ).off (org κ c h.castSucc)) (hd : d = fwd κ c) (hs : s = sendSem κ h) (hr : r = recvSem κ h)
    {O O' : CellTallies nD τ sig Unit} (hO : O = O' + due c h κ) :
    iprop(records I K ∗ SendSt κ c h.val ∗ pieceAt I κ fullShare.left c (org κ c h.castSucc) ∗ ow c O)
      ⊢ iprop((iprop(SendSt κ c (h.val + 1) ∗ ow c O') -∗ WP c (kk ⟨⟩) Q)
          -∗ WP c (sendOp (F := F) (S := sh (cl κ).W) (cl κ).g (cl κ).hg off inb ww d s r >>= kk) Q) := by
  subst hoff hd hs hr
  unfold sendOp
  simp only [Prog.lift, Prog.bind_op, Prog.bind_ret]
  unfold SendSt ow
  iintro ⟨#Hrec, Hst, Hp, ⟨%W, HO⟩⟩ Hk
  ihave Hst' := (prog_step (Sent (F := F) κ c) (ToSend κ c) h) $$ Hst
  unfold pieceAt
  icases Hst' with ⟨Ht, Hback⟩
  unfold ToSend
  icases Ht with ⟨HtS, HtR, #HrS, #HrR, Hn, HatS⟩
  unfold pieceAny
  icases Hn with ⟨%fn, Hn⟩
  iapply (Rounds.wp_send_pointsTo 𝒱₀ ER (Rd I) (c : Thread nD τ) none (c' := (fwd κ c : Thread nD τ)) (src := sl κ (org κ c h.castSucc)) (dst := sl κ (org κ c h.castSucc))
      (sS := .dma (sendSem κ h)) (sem := .dma (recvSem κ h)) (q := fullShare.left) (fs := gath I κ c) (κ₁ := K (cellS c κ h)) (κ₂ := K (cellR (fwd κ c) κ h))
      (r₁ := 0) (r₂ := 0) (d₁ := false) (d₂ := false) (fd := fn)
      (by rw [duties_send]; exact Finset.mem_singleton_self _) (by rw [duties_recv]; exact Finset.mem_singleton_self _)
      () () (NN κ) rfl (amount_send I c κ h false) (amount_recv I (fwd κ c) κ h false) O' hO (W := W)
      (by rw [payload_send]; exact BI.Entails.refl _)
      (by rw [payload_recv, org_fwd, copied])) $$ [Hp Hn HO HtS HtR]
  · isplitr; · iapply (rec_send I K c κ h); iexact Hrec
    isplitr; · iapply (rec_recv I K (fwd κ c) κ h); iexact Hrec
    isplitl [Hp]; · iexact Hp
    isplitl [Hn]; · iexact Hn
    isplitl [HO]; · iexact HO
    isplitl [HtS]; · iexact HtS
    isplitr; · iexact HrS
    isplitl [HtR]; · iexact HtR
    iexact HrR
  iintro ⟨Hc, HO⟩
  iapply Hk
  isplitl [Hc HatS Hback]
  · iapply Hback
    unfold Sent
    isplitl [Hc]; · iexact Hc
    iexact HatS
  · iexists W; iexact HO

/-- The wait for the arrival of hop h, owing the hops from n on. -/
theorem recv_step {α : Type} (kk : PUnit → PG F α) (Q : α → sProp 𝕄) (h : Fin 15) (n : ℕ) (hn : h.val < n) {off : Fin 2 → ℕ} {inb : ∀ a, off a + (cl κ).sz a ≤ (sh (cl κ).W).size a}
    {ww : (Rect.unit (s := sh (cl κ).W) off (cl κ).sz inb).WholeWords (EltTy.packing .i8)} {s : DmaSem sig} (hs : s = recvSem κ h) :
    iprop(records I K ∗ RecvSt κ c h.val ∗ ow c (owe c n))
      ⊢ iprop((iprop(RecvSt κ c (h.val + 1) ∗ (pieceAt I κ fullShare.left c (org κ c h.succ) ∗ pieceAt I κ fullShare.right c (org κ c h.succ)) ∗ ow c (owe c n))
            -∗ WP c (kk ⟨⟩) Q)
          -∗ WP c (waitOp (F := F) (S := sh (cl κ).W) (cl κ).g (cl κ).hg off inb ww s >>= kk) Q) := by
  subst hs
  let wv := (cl κ).g.slice (Rect.unit (s := sh (cl κ).W) off (cl κ).sz inb) (fun _ => rfl)
  have hx : wv.view.WordExact := (cl κ).hg.wordExact_slice rfl _ ww
  unfold waitOp
  simp only [Prog.lift, Prog.bind_op, Prog.bind_ret]
  unfold RecvSt ow
  iintro ⟨#Hrec, Hst, ⟨%W, HO⟩⟩ Hk
  ihave Hst' := (prog_step (RecvDone (F := F) κ c) (RecvTodo κ c) h) $$ Hst
  icases Hst' with ⟨Ht, Hback⟩
  unfold RecvTodo
  icases Ht with ⟨Hc, Hat⟩
  iapply (Rounds.wp_wait_rest_token 𝒱₀ ER (Rd I) (c : Thread nD τ) none (κ := K (cellR c κ h))
      (w := .waitDma2 _ wv wv hx hx) (k' := NN κ) (fun _ => rfl) (Set.mem_univ _) () (O := owe c n) (W := W) (R := 0) (m := 0) (T := ∅)
      ((Nat.zero_add _).trans (expect_recv I c κ h).symm)) $$ [Hc HO Hat]
  · isplitr; · iapply (rec_recv I K c κ h); iexact Hrec
    isplitl [Hc]; · iexact Hc
    isplitl [HO]; · iexact HO
    isplitr
    · iapply (may I K c (.dma (recvSem κ h)) n (lt_of_eq_of_lt (lv_recv c κ h) (Nat.add_lt_add_left hn 2))); iexact Hrec
    iexact Hat
  iintro ⟨HO, Hat, -, Hpay⟩
  ihave Hp := (Entails.of_eq (rest_recv I c κ h)) $$ Hpay
  ihave Hp2 := (halves I κ c (org κ c h.succ)).1 $$ Hp
  imod (close I K (cellR c κ h)) $$ [Hat] with Hv
  · isplitr; · iapply (rec_recv I K c κ h); iexact Hrec
    iexact Hat
  iapply Hk
  isplitl [Hv Hback]
  · iapply Hback; unfold RecvDone; iexact Hv
  isplitl [Hp2]; · iexact Hp2
  iexists _; iexact HO

/-- The wait for the departure of hop h, owing nothing. -/
theorem sent_step {α : Type} (kk : PUnit → PG F α) (Q : α → sProp 𝕄) (h : Fin 15) {off : Fin 2 → ℕ} {inb : ∀ a, off a + (cl κ).sz a ≤ (sh (cl κ).W).size a}
    {ww : (Rect.unit (s := sh (cl κ).W) off (cl κ).sz inb).WholeWords (EltTy.packing .i8)} {s : DmaSem sig} (hs : s = sendSem κ h) :
    iprop(records I K ∗ DoneSt I κ c h.val ∗ ow c (owe c 15))
      ⊢ iprop((iprop(DoneSt I κ c (h.val + 1) ∗ ow c (owe c 15)) -∗ WP c (kk ⟨⟩) Q)
          -∗ WP c (waitOp (F := F) (S := sh (cl κ).W) (cl κ).g (cl κ).hg off inb ww s >>= kk) Q) := by
  subst hs
  let wv := (cl κ).g.slice (Rect.unit (s := sh (cl κ).W) off (cl κ).sz inb) (fun _ => rfl)
  have hx : wv.view.WordExact := (cl κ).hg.wordExact_slice rfl _ ww
  unfold waitOp
  simp only [Prog.lift, Prog.bind_op, Prog.bind_ret]
  unfold DoneSt ow
  iintro ⟨#Hrec, Hst, ⟨%W, HO⟩⟩ Hk
  ihave Hst' := (prog_step (SentDone I κ c) (Sent κ c) h) $$ Hst
  icases Hst' with ⟨Ht, Hback⟩
  unfold Sent
  icases Ht with ⟨Hc, Hat⟩
  iapply (Rounds.wp_wait_rest_token 𝒱₀ ER (Rd I) (c : Thread nD τ) none (κ := K (cellS c κ h))
      (w := .waitDma2 _ wv wv hx hx) (k' := NN κ) (fun _ => rfl) (Set.mem_univ _) () (O := owe c 15) (W := W) (R := 0) (m := 0) (T := ∅)
      ((Nat.zero_add _).trans (expect_send I c κ h).symm)) $$ [Hc HO Hat]
  · isplitr; · iapply (rec_send I K c κ h); iexact Hrec
    isplitl [Hc]; · iexact Hc
    isplitl [HO]; · iexact HO
    isplitr
    · iapply (may I K c (.dma (sendSem κ h)) 15 (lt_of_eq_of_lt (lv_send c κ h) (by decide))); iexact Hrec
    iexact Hat
  iintro ⟨HO, Hat, -, Hpay⟩
  ihave Hp := (Entails.of_eq (rest_send I c κ h)) $$ Hpay
  imod (close I K (cellS c κ h)) $$ [Hat] with Hv
  · isplitr; · iapply (rec_send I K c κ h); iexact Hrec
    iexact Hat
  iapply Hk
  isplitl [Hv Hback Hp]
  · iapply Hback; unfold SentDone
    isplitl [Hv]; · iexact Hv
    iexact Hp
  iexists _; iexact HO

/-- Reading piece r, from half a share of it. -/
theorem load_step {α : Type} (Q : α → sProp 𝕄) (q : PosShare TreeShare) (o : Dev nD) {off : Fin 2 → ℕ} {inb : ∀ a, off a + (cl κ).sz a ≤ (sh (cl κ).W).size a}
    {hp : 0 < (⟨(sh (cl κ).W).rank, (cl κ).sz⟩ : Shape).numel} (hoff : off = (cl κ).off o) (kv : Vec F ⟨2, (cl κ).sz⟩ .i8 → PG F α) :
    iprop(pieceAt I κ q c o)
      ⊢ iprop((iprop(pieceAt I κ q c o) -∗ WP c (kv ((sl κ o).view.read (Elt F) (gath I κ c))) Q)
          -∗ WP c (loadOp (F := F) (S := sh (cl κ).W) (cl κ).g off inb hp >>= kv) Q) := by
  subst hoff
  unfold loadOp
  simp only [Prog.lift, Prog.bind_op, Prog.bind_ret]
  unfold pieceAt
  iintro H Hk
  iapply (wp_load_rect 𝒱₀ (c : Thread nD τ) none Set.univ (m := (cl κ).g) (r := Rect.unit (s := sh (cl κ).W) ((cl κ).off o) (cl κ).sz inb) (Finset.Subset.refl _)) $$ H
  iintro H
  iapply Hk
  iexact H

/-- A vector stored over the whole stage is what the stage then reads. -/
theorem stage_read {hz : ∀ a, (fun _ => 0 : Fin 2 → ℕ) a + (cl κ).sz a ≤ (cl κ).sz a} (f : Buf (Elt F) ((cl κ).st.view.loc (c : Thread nD τ))) (v : Vec F ⟨2, (cl κ).sz⟩ .bf16) :
    (cl κ).st.view.read (Elt F) (((cl κ).st.access (Rect.unit (s := ⟨2, (cl κ).sz⟩) (fun _ => 0) (cl κ).sz hz)).write (Elt F) f v Finset.univ) = v := by
  conv_rhs => rw [← View.read_write_univ (Val := Elt F) (v := (cl κ).st.access (Rect.unit (s := ⟨2, (cl κ).sz⟩) (fun _ => 0) (cl κ).sz hz)) f v]
  funext j
  rw [View.read_apply, View.read_apply]
  have : (Rect.unit (s := ⟨2, (cl κ).sz⟩) (fun _ => 0) (cl κ).sz hz).emb j = j := by
    funext a; apply Fin.ext; simp
  have h2 : ((cl κ).st.access (Rect.unit (s := ⟨2, (cl κ).sz⟩) (fun _ => 0) (cl κ).sz hz)).emb j = (cl κ).st.view.emb j := congrArg (cl κ).st.view.emb this
  rw [h2]

/-- What the copy out of the stage leaves on its piece of the result: the cast contents. -/
theorem put_out (o : Dev nD) (hz : ∀ a, (fun _ => 0 : Fin 2 → ℕ) a + (cl κ).sz a ≤ (cl κ).sz a) (f : Buf (Elt F) ((cl κ).st.view.loc (c : Thread nD τ)))
    (fd : Buf (Elt F) ((osl κ o).view.loc (c : Thread nD τ))) :
    ((osl κ o).view.loc (c : Thread nD τ) ↦[(osl κ o).view.set]{fullShare} ((osl κ o).view.write (Elt F) fd ((cl κ).st.view.read (Elt F)
        (((cl κ).st.access (Rect.unit (s := ⟨2, (cl κ).sz⟩) (fun _ => 0) (cl κ).sz hz)).write (Elt F) f ((osl κ o).view.read (Elt F) (outG I κ c)) Finset.univ))
        Finset.univ) : sProp 𝕄) = outAt I κ c o := by
  unfold outAt
  refine pointsTo_congr fun i hi => ?_
  rw [stage_read, View.write_read_eq_piecewise, View.setOn_univ]
  exact Finset.piecewise_eq_of_mem _ _ _ hi

/-- Piece r's cast put in the stage and its copy out begun. -/
theorem put_step {α : Type} (kk : PUnit → PG F α) (Q : α → sProp 𝕄) (r : Fin 16) {z : Fin 2 → ℕ} {hz : ∀ a, z a + (cl κ).sz a ≤ (cl κ).sz a} {hp : 0 < (⟨(sh (cl κ).W).rank, (cl κ).sz⟩ : Shape).numel}
    {pk : (Rect.unit (s := ⟨(sh (cl κ).W).rank, (cl κ).sz⟩) z (cl κ).sz hz).PackedRows (EltTy.packing .bf16)} {off : Fin 2 → ℕ}
    {inb : ∀ a, off a + (cl κ).sz a ≤ (sh (cl κ).W).size a} {ww : (Rect.unit (s := sh (cl κ).W) off (cl κ).sz inb).WholeWords (EltTy.packing .bf16)} {s : DmaSem sig}
    (hz0 : z = fun _ => 0) (hoff : off = (cl κ).off (org κ c r)) (hs : s = locSem κ) :
    iprop(Idle I κ c r.val ∗ pieceAt I κ fullShare.right c (org κ c r))
      ⊢ iprop((iprop(Pend I κ c r) -∗ WP c (kk ⟨⟩) Q)
          -∗ WP c (putOp (F := F) (S := sh (cl κ).W) (cl κ).st (cl κ).hst z hz hp pk (castK I c κ ((sl κ (org κ c r)).view.read (Elt F) (gath I κ c)))
              (cl κ).o (cl κ).ho off inb ww s >>= kk) Q) := by
  subst hz0 hoff hs
  unfold putOp
  simp only [Prog.lift, Prog.bind_op, Prog.bind_ret]
  rw [← outG_read]
  unfold Idle stageAny CastSt
  iintro ⟨⟨Hst, ⟨%f, Hs⟩, Hv⟩, Hp⟩ Hk
  ihave Hst' := (prog_step (CastDone I κ c) (CastTodo κ c) r) $$ Hst
  icases Hst' with ⟨Ht, Hback⟩
  unfold CastTodo outAny
  icases Ht with ⟨%fo, Ho⟩
  iapply (wp_load_rect 𝒱₀ (c : Thread nD τ) none Set.univ (m := (cl κ).st) (r := Rect.unit (s := ⟨(sh (cl κ).W).rank, (cl κ).sz⟩) (fun _ => 0) (cl κ).sz hz)
      (View.set_slice_subset _ _)) $$ Hs
  iintro Hs
  iapply (wp_store 𝒱₀ (c : Thread nD τ) none Set.univ (m := (cl κ).st) (r := Rect.unit (s := ⟨(sh (cl κ).W).rank, (cl κ).sz⟩) (fun _ => 0) (cl κ).sz hz)
      (Mk := Finset.univ) ((View.setOn_subset_set _ _).trans (View.set_slice_subset _ _))) $$ Hs
  iintro Hs
  iapply (wp_dmaLocal EC 𝒱₀ (c : Thread nD τ) none (src := (cl κ).st) (dst := osl κ (org κ c r)) (sm := .dma (locSem κ)) (q := fullShare) () (Pend.NN' κ) rfl
      (NN'_pos κ) (Finset.Subset.refl _)) $$ [Hs Ho Hv]
  · isplitl [Hs]; · iexact Hs
    isplitl [Ho]; · iexact Ho
    iexact Hv
  iintro Hf
  iapply Hk
  unfold Pend CastSt
  iexists _
  isplitl [Hf]
  · iapply (Entails.of_eq (congrArg (fun D => Flight EC (c : Thread nD τ) (.dma (locSem κ)) () (Pend.NN' κ)
      iprop(D ∗ (cl κ).st.view.loc (c : Thread nD τ) ↦[(cl κ).st.view.set]{fullShare} _)) (put_out I κ c (org κ c r) hz f fo)))
    iexact Hf
  isplitl [Hp]; · iexact Hp
  iexact Hback

/-- The wait for piece r's copy out, owing the hops from n on. -/
theorem flush_step {α : Type} (kk : PUnit → PG F α) (Q : α → sProp 𝕄) (r : Fin 16) (n : ℕ) {off : Fin 2 → ℕ}
    {inb : ∀ a, off a + (cl κ).sz a ≤ (sh (cl κ).W).size a} {ww : (Rect.unit (s := sh (cl κ).W) off (cl κ).sz inb).WholeWords (EltTy.packing .bf16)} {s : DmaSem sig}
    (hs : s = locSem κ) :
    iprop(records I K ∗ Pend I κ c r ∗ ow c (owe c n))
      ⊢ iprop((iprop(Idle I κ c (r.val + 1) ∗ ow c (owe c n)) -∗ WP c (kk ⟨⟩) Q)
          -∗ WP c (flushOp (F := F) (S := sh (cl κ).W) (cl κ).st (cl κ).hst (cl κ).o (cl κ).ho off inb ww s >>= kk) Q) := by
  subst hs
  unfold flushOp
  simp only [Prog.lift, Prog.bind_op, Prog.bind_ret]
  unfold Pend ow
  iintro ⟨#Hrec, ⟨%fs, Hf, Hp, Hback⟩, ⟨%W, HO⟩⟩ Hk
  iapply (wp_waitLocalO EC 𝒱₀ (c : Thread nD τ) none (srcw := (cl κ).st) (dstw := (cl κ).o.slice (Rect.unit (s := sh (cl κ).W) off (cl κ).sz inb) (fun _ => rfl))
      (hsrc := (cl κ).hst.wordExact) (hdst := (cl κ).ho.wordExact_slice rfl _ ww) (sem := locSem κ) (O := owe c n) (W := W) () (N := Pend.NN' κ) rfl) $$ [Hf HO]
  · isplitl [Hf]; · iexact Hf
    isplitl [HO]; · iexact HO
    iapply (may I K c (.dma (locSem κ)) n (lt_of_eq_of_lt (lv_loc c κ) (Nat.lt_of_lt_of_le Nat.two_pos (Nat.le_add_right 2 n)))); iexact Hrec
  iintro ⟨⟨Ho, Hs⟩, Hv, HO⟩
  iapply Hk
  isplitl [Ho Hs Hv Hp Hback]
  · unfold Idle
    isplitl [Ho Hp Hback]
    · iapply Hback; unfold CastDone
      isplitl [Ho]; · iexact Ho
      iexact Hp
    isplitl [Hs]
    · unfold stageAny; iexists fs; iexact Hs
    iexact Hv
  iexists _; iexact HO

end Ops

end Cert.KernelIdeal.Gath
-- ==== Proof.Hops.lean ====
/-
  One hop of the all-gather, all four streams together: its copies, its waits, its casts. Each rule takes the four streams' states to the next.
-/
module

public import proofs.«01_k».proof.Proof.Steps

@[expose] public section

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the program's pieces lie -/

section Offs
variable (c : Dev nD) (h : Fin 15)

theorem o3 : k0_off3 c (BitVec.ofNat 32 h.val) = (cl 0).off (org 0 c h.castSucc) := by revert c h; decide +kernel
theorem o4 : k0_off4 c (BitVec.ofNat 32 h.val) = (cl 1).off (org 1 c h.castSucc) := by revert c h; decide +kernel
theorem o5 : k0_off5 c (BitVec.ofNat 32 h.val) = (cl 2).off (org 2 c h.castSucc) := by revert c h; decide +kernel
theorem o6 : k0_off6 c (BitVec.ofNat 32 h.val) = (cl 3).off (org 3 c h.castSucc) := by revert c h; decide +kernel
theorem o7 : k0_off7 c = (cl 0).off (org 0 c 0) := by revert c; decide +kernel
theorem o8 : k0_off8 c = (cl 0).off (org 0 c 0) := by revert c; decide +kernel
theorem o9 : k0_off9 c = (cl 1).off (org 1 c 0) := by revert c; decide +kernel
theorem o10 : k0_off10 c = (cl 1).off (org 1 c 0) := by revert c; decide +kernel
theorem o11 : k0_off11 c = (cl 2).off (org 2 c 0) := by revert c; decide +kernel
theorem o12 : k0_off12 c = (cl 2).off (org 2 c 0) := by revert c; decide +kernel
theorem o13 : k0_off13 c = (cl 3).off (org 3 c 0) := by revert c; decide +kernel
theorem o14 : k0_off14 c = (cl 3).off (org 3 c 0) := by revert c; decide +kernel
theorem o15 : k0_off15 c (BitVec.ofNat 32 h.val) = (cl 0).off (org 0 c h.succ) := by revert c h; decide +kernel
theorem o16 : k0_off16 c (BitVec.ofNat 32 h.val) = (cl 0).off (org 0 c h.succ) := by revert c h; decide +kernel
theorem o17 : k0_off17 c (BitVec.ofNat 32 h.val) = (cl 2).off (org 2 c h.succ) := by revert c h; decide +kernel
theorem o18 : k0_off18 c (BitVec.ofNat 32 h.val) = (cl 2).off (org 2 c h.succ) := by revert c h; decide +kernel
theorem o19 : k0_off19 c (BitVec.ofNat 32 h.val) = (cl 1).off (org 1 c h.succ) := by revert c h; decide +kernel
theorem o20 : k0_off20 c (BitVec.ofNat 32 h.val) = (cl 1).off (org 1 c h.succ) := by revert c h; decide +kernel
theorem o21 : k0_off21 c (BitVec.ofNat 32 h.val) = (cl 3).off (org 3 c h.succ) := by revert c h; decide +kernel
theorem o22 : k0_off22 c (BitVec.ofNat 32 h.val) = (cl 3).off (org 3 c h.succ) := by revert c h; decide +kernel
theorem d1 : (⟨k0_dev1 c, k0_dev1_lt c⟩ : Dev nD) = prv c := by revert c; decide +kernel
theorem d2 : (⟨k0_dev2 c, k0_dev2_lt c⟩ : Dev nD) = nxt c := by revert c; decide +kernel
theorem d3 : (⟨k0_dev3 c, k0_dev3_lt c⟩ : Dev nD) = fwd 0 c := by revert c; decide +kernel
theorem d4 : (⟨k0_dev4 c, k0_dev4_lt c⟩ : Dev nD) = fwd 1 c := by revert c; decide +kernel
theorem d5 : (⟨k0_dev5 c, k0_dev5_lt c⟩ : Dev nD) = fwd 2 c := by revert c; decide +kernel
theorem d6 : (⟨k0_dev6 c, k0_dev6_lt c⟩ : Dev nD) = fwd 3 c := by revert c; decide +kernel
end Offs

/-! ## The four streams -/

def four (Φ : Str → sProp 𝕄) : sProp 𝕄 := iprop(Φ 0 ∗ Φ 1 ∗ Φ 2 ∗ Φ 3)
/-- Half a share of the r-th piece of each stream. -/
abbrev lefts (I : Inp F) (c : Dev nD) (r : Fin 16) : sProp 𝕄 := four fun κ => pieceAt I κ fullShare.left c (org κ c r)
abbrev rights (I : Inp F) (c : Dev nD) (r : Fin 16) : sProp 𝕄 := four fun κ => pieceAt I κ fullShare.right c (org κ c r)

/-! ## The program at the call's own arrays -/

abbrev G0 : Memref sig .tc .vmem S4096x4096 .i8 := Memref.whole cc0_scratch0
abbrev G1 : Memref sig .tc .vmem S4096x8192 .i8 := Memref.whole cc0_scratch1
abbrev sendsC (c : Dev nD) (h : Fin 15) : PG F PUnit :=
  sends G0 (Memref.isWhole_whole _) G1 (Memref.isWhole_whole _) cc0_scratch2 cc0_scratch3 cc0_scratch4 cc0_scratch5 cc0_scratch6 cc0_scratch7 cc0_scratch8 cc0_scratch9 c h
abbrev waitsC (c : Dev nD) (h : Fin 15) : PG F PUnit :=
  waits G0 (Memref.isWhole_whole _) G1 (Memref.isWhole_whole _) cc0_scratch3 cc0_scratch5 cc0_scratch7 cc0_scratch9 c h
abbrev endsC (c : Dev nD) (h : Fin 15) : PG F PUnit :=
  waits G0 (Memref.isWhole_whole _) G1 (Memref.isWhole_whole _) cc0_scratch2 cc0_scratch4 cc0_scratch6 cc0_scratch8 c h
abbrev casts0C (c : Dev nD) (s : F .f32) : PG F PUnit :=
  casts0 (Memref.whole main_v3_0) (Memref.isWhole_whole _) (Memref.whole main_v3_1) (Memref.isWhole_whole _) G0 G1 (Memref.whole cc0_scratch10) (Memref.isWhole_whole _)
    (Memref.whole cc0_scratch11) (Memref.isWhole_whole _) (Memref.whole cc0_scratch12) (Memref.isWhole_whole _) (Memref.whole cc0_scratch13) (Memref.isWhole_whole _) cc0_scratch14 c s
abbrev castsC (c : Dev nD) (s : F .f32) (h : Fin 15) (ft fl fb fr : PG F PUnit) : PG F PUnit :=
  casts (Memref.whole main_v3_0) (Memref.isWhole_whole _) (Memref.whole main_v3_1) (Memref.isWhole_whole _) G0 G1 (Memref.whole cc0_scratch10) (Memref.isWhole_whole _)
    (Memref.whole cc0_scratch11) (Memref.isWhole_whole _) (Memref.whole cc0_scratch12) (Memref.isWhole_whole _) (Memref.whole cc0_scratch13) (Memref.isWhole_whole _) cc0_scratch14 c s h ft fl fb fr

section Runs
variable (I : Inp F) (K : GSem nD τ sig → ℕ) (c : Dev nD)

/-- Hop h's four copies. -/
theorem sends_run {α : Type} (kk : PUnit → PG F α) (Q : α → sProp 𝕄) (h : Fin 15) :
    iprop(records I K ∗ four (fun κ => SendSt κ c h.val) ∗ lefts I c h.castSucc ∗ ow c (owe c h.val))
      ⊢ iprop((iprop(four (fun κ => SendSt κ c (h.val + 1)) ∗ ow c (owe c (h.val + 1))) -∗ WP c (kk ⟨⟩) Q) -∗ WP c (sendsC c h >>= kk) Q) := by
  unfold sendsC sends lefts four
  simp only [Prog.bind_assoc]
  iintro ⟨#Hrec, ⟨S0, S1, S2, S3⟩, ⟨L0, L1, L2, L3⟩, HO⟩ Hk
  iapply (send_step I K 0 c _ Q h (o3 c h) (d3 c) (semAt7 h) (semAt8 h) (owe_step c h)) $$ [S0 L0 HO]
  · isplitr; · iexact Hrec
    isplitl [S0]; · iexact S0
    isplitl [L0]; · iexact L0
    iexact HO
  iintro ⟨S0, HO⟩
  iapply (send_step I K 1 c _ Q h (o4 c h) (d4 c) (semAt9 h) (semAt10 h) rfl) $$ [S1 L1 HO]
  · isplitr; · iexact Hrec
    isplitl [S1]; · iexact S1
    isplitl [L1]; · iexact L1
    iexact HO
  iintro ⟨S1, HO⟩
  iapply (send_step I K 2 c _ Q h (o5 c h) (d5 c) (semAt11 h) (semAt12 h) rfl) $$ [S2 L2 HO]
  · isplitr; · iexact Hrec
    isplitl [S2]; · iexact S2
    isplitl [L2]; · iexact L2
    iexact HO
  iintro ⟨S2, HO⟩
  iapply (send_step I K 3 c _ Q h (o6 c h) (d6 c) (semAt13 h) (semAt14 h) rfl) $$ [S3 L3 HO]
  · isplitr; · iexact Hrec
    isplitl [S3]; · iexact S3
    isplitl [L3]; · iexact L3
    iexact HO
  iintro ⟨S3, HO⟩
  iapply Hk
  isplitl [S0 S1 S2 S3]
  · isplitl [S0]; · iexact S0
    isplitl [S1]; · iexact S1
    isplitl [S2]; · iexact S2
    iexact S3
  iexact HO

/-- Hop h's four arrivals. -/
theorem waits_run {α : Type} (kk : PUnit → PG F α) (Q : α → sProp 𝕄) (h : Fin 15) (n : ℕ) (hn : h.val < n) :
    iprop(records I K ∗ four (fun κ => RecvSt κ c h.val) ∗ ow c (owe c n))
      ⊢ iprop((iprop(four (fun κ => RecvSt κ c (h.val + 1)) ∗ lefts I c h.succ ∗ rights I c h.succ ∗ ow c (owe c n)) -∗ WP c (kk ⟨⟩) Q) -∗ WP c (waitsC c h >>= kk) Q) := by
  unfold waitsC waits lefts rights four
  simp only [Prog.bind_assoc]
  iintro ⟨#Hrec, ⟨S0, S1, S2, S3⟩, HO⟩ Hk
  iapply (recv_step I K 0 c _ Q h n hn (semAt8 h)) $$ [S0 HO]
  · isplitr; · iexact Hrec
    isplitl [S0]; · iexact S0
    iexact HO
  iintro ⟨S0, ⟨L0, R0⟩, HO⟩
  iapply (recv_step I K 1 c _ Q h n hn (semAt10 h)) $$ [S1 HO]
  · isplitr; · iexact Hrec
    isplitl [S1]; · iexact S1
    iexact HO
  iintro ⟨S1, ⟨L1, R1⟩, HO⟩
  iapply (recv_step I K 2 c _ Q h n hn (semAt12 h)) $$ [S2 HO]
  · isplitr; · iexact Hrec
    isplitl [S2]; · iexact S2
    iexact HO
  iintro ⟨S2, ⟨L2, R2⟩, HO⟩
  iapply (recv_step I K 3 c _ Q h n hn (semAt14 h)) $$ [S3 HO]
  · isplitr; · iexact Hrec
    isplitl [S3]; · iexact S3
    iexact HO
  iintro ⟨S3, ⟨L3, R3⟩, HO⟩
  iapply Hk
  isplitl [S0 S1 S2 S3]
  · isplitl [S0]; · iexact S0
    isplitl [S1]; · iexact S1
    isplitl [S2]; · iexact S2
    iexact S3
  isplitl [L0 L1 L2 L3]
  · isplitl [L0]; · iexact L0
    isplitl [L1]; · iexact L1
    isplitl [L2]; · iexact L2
    iexact L3
  isplitl [R0 R1 R2 R3]
  · isplitl [R0]; · iexact R0
    isplitl [R1]; · iexact R1
    isplitl [R2]; · iexact R2
    iexact R3
  iexact HO

/-- Hop h's four departures, at the end. -/
theorem ends_run {α : Type} (kk : PUnit → PG F α) (Q : α → sProp 𝕄) (h : Fin 15) :
    iprop(records I K ∗ four (fun κ => DoneSt I κ c h.val) ∗ ow c (owe c 15))
      ⊢ iprop((iprop(four (fun κ => DoneSt I κ c (h.val + 1)) ∗ ow c (owe c 15)) -∗ WP c (kk ⟨⟩) Q) -∗ WP c (endsC c h >>= kk) Q) := by
  unfold endsC waits four
  simp only [Prog.bind_assoc]
  iintro ⟨#Hrec, ⟨S0, S1, S2, S3⟩, HO⟩ Hk
  iapply (sent_step I K 0 c _ Q h (semAt7 h)) $$ [S0 HO]
  · isplitr; · iexact Hrec
    isplitl [S0]; · iexact S0
    iexact HO
  iintro ⟨S0, HO⟩
  iapply (sent_step I K 1 c _ Q h (semAt9 h)) $$ [S1 HO]
  · isplitr; · iexact Hrec
    isplitl [S1]; · iexact S1
    iexact HO
  iintro ⟨S1, HO⟩
  iapply (sent_step I K 2 c _ Q h (semAt11 h)) $$ [S2 HO]
  · isplitr; · iexact Hrec
    isplitl [S2]; · iexact S2
    iexact HO
  iintro ⟨S2, HO⟩
  iapply (sent_step I K 3 c _ Q h (semAt13 h)) $$ [S3 HO]
  · isplitr; · iexact Hrec
    isplitl [S3]; · iexact S3
    iexact HO
  iintro ⟨S3, HO⟩
  iapply Hk
  isplitl [S0 S1 S2 S3]
  · isplitl [S0]; · iexact S0
    isplitl [S1]; · iexact S1
    isplitl [S2]; · iexact S2
    iexact S3
  iexact HO

theorem zz : (![0, 0] : Fin 2 → ℕ) = fun _ => 0 := by funext a; match a with | 0 => rfl | 1 => rfl

/-- The casts of the device's own pieces. -/
theorem casts0_run {α : Type} (kk : PUnit → PG F α) (Q : α → sProp 𝕄) :
    iprop(four (fun κ => Idle I κ c 0) ∗ rights I c 0)
      ⊢ iprop((iprop(four (fun κ => Pend I κ c 0)) -∗ WP c (kk ⟨⟩) Q) -∗ WP c (casts0C c (I.s c) >>= kk) Q) := by
  unfold casts0C casts0 rights four
  simp only [Prog.bind_assoc]
  iintro ⟨⟨S0, S1, S2, S3⟩, ⟨R0, R1, R2, R3⟩⟩ Hk
  iapply (load_step I 0 c Q fullShare.right (org 0 c 0) (o7 c) _) $$ R0
  iintro R0
  iapply (put_step I 0 c _ Q 0 zz (o8 c) (semAt19 0)) $$ [S0 R0]
  · isplitl [S0]; · iexact S0
    iexact R0
  iintro S0
  iapply (load_step I 1 c Q fullShare.right (org 1 c 0) (o9 c) _) $$ R1
  iintro R1
  iapply (put_step I 1 c _ Q 0 zz (o10 c) (semAt19 1)) $$ [S1 R1]
  · isplitl [S1]; · iexact S1
    iexact R1
  iintro S1
  iapply (load_step I 2 c Q fullShare.right (org 2 c 0) (o11 c) _) $$ R2
  iintro R2
  iapply (put_step I 2 c _ Q 0 zz (o12 c) (semAt19 2)) $$ [S2 R2]
  · isplitl [S2]; · iexact S2
    iexact R2
  iintro S2
  iapply (load_step I 3 c Q fullShare.right (org 3 c 0) (o13 c) _) $$ R3
  iintro R3
  iapply (put_step I 3 c _ Q 0 zz (o14 c) (semAt19 3)) $$ [S3 R3]
  · isplitl [S3]; · iexact S3
    iexact R3
  iintro S3
  iapply Hk
  isplitl [S0]; · iexact S0
  isplitl [S1]; · iexact S1
  isplitl [S2]; · iexact S2
  iexact S3

/-- A program that waits for piece r's copy out of stream κ's stage. -/
def Flushes (κ : Str) (r : Fin 16) (p : PG F PUnit) : Prop := ∀ (n : ℕ) (kk : PUnit → PG F PUnit) (Q : PUnit → sProp 𝕄),
  iprop(records I K ∗ Pend I κ c r ∗ ow c (owe c n)) ⊢ iprop((iprop(Idle I κ c (r.val + 1) ∗ ow c (owe c n)) -∗ WP c (kk ⟨⟩) Q) -∗ WP c (p >>= kk) Q)

/-- Hop h's casts. -/
theorem casts_run (kk : PUnit → PG F PUnit) (Q : PUnit → sProp 𝕄) (h : Fin 15) (n : ℕ) {ft fl fb fr : PG F PUnit}
    (ht : Flushes I K c 0 h.castSucc ft) (hl : Flushes I K c 2 h.castSucc fl) (hb : Flushes I K c 1 h.castSucc fb) (hr : Flushes I K c 3 h.castSucc fr) :
    iprop(records I K ∗ four (fun κ => Pend I κ c h.castSucc) ∗ rights I c h.succ ∗ ow c (owe c n))
      ⊢ iprop((iprop(four (fun κ => Pend I κ c h.succ) ∗ ow c (owe c n)) -∗ WP c (kk ⟨⟩) Q) -∗ WP c (castsC c (I.s c) h ft fl fb fr >>= kk) Q) := by
  unfold castsC casts rights four
  simp only [Prog.bind_assoc]
  iintro ⟨#Hrec, ⟨S0, S1, S2, S3⟩, ⟨R0, R1, R2, R3⟩, HO⟩ Hk
  iapply (load_step I 0 c Q fullShare.right (org 0 c h.succ) (o15 c h) _) $$ R0
  iintro R0
  iapply (ht n _ Q) $$ [S0 HO]
  · isplitr; · iexact Hrec
    isplitl [S0]; · iexact S0
    iexact HO
  iintro ⟨S0, HO⟩
  iapply (put_step I 0 c _ Q h.succ zz (o16 c h) (semAt19 0)) $$ [S0 R0]
  · isplitl [S0]; · iexact S0
    iexact R0
  iintro S0
  iapply (load_step I 2 c Q fullShare.right (org 2 c h.succ) (o17 c h) _) $$ R2
  iintro R2
  iapply (hl n _ Q) $$ [S2 HO]
  · isplitr; · iexact Hrec
    isplitl [S2]; · iexact S2
    iexact HO
  iintro ⟨S2, HO⟩
  iapply (put_step I 2 c _ Q h.succ zz (o18 c h) (semAt19 2)) $$ [S2 R2]
  · isplitl [S2]; · iexact S2
    iexact R2
  iintro S2
  iapply (load_step I 1 c Q fullShare.right (org 1 c h.succ) (o19 c h) _) $$ R1
  iintro R1
  iapply (hb n _ Q) $$ [S1 HO]
  · isplitr; · iexact Hrec
    isplitl [S1]; · iexact S1
    iexact HO
  iintro ⟨S1, HO⟩
  iapply (put_step I 1 c _ Q h.succ zz (o20 c h) (semAt19 1)) $$ [S1 R1]
  · isplitl [S1]; · iexact S1
    iexact R1
  iintro S1
  iapply (load_step I 3 c Q fullShare.right (org 3 c h.succ) (o21 c h) _) $$ R3
  iintro R3
  iapply (hr n _ Q) $$ [S3 HO]
  · isplitr; · iexact Hrec
    isplitl [S3]; · iexact S3
    iexact HO
  iintro ⟨S3, HO⟩
  iapply (put_step I 3 c _ Q h.succ zz (o22 c h) (semAt19 3)) $$ [S3 R3]
  · isplitl [S3]; · iexact S3
    iexact R3
  iintro S3
  iapply Hk
  isplitl [S0 S1 S2 S3]
  · isplitl [S0]; · iexact S0
    isplitl [S1]; · iexact S1
    isplitl [S2]; · iexact S2
    iexact S3
  iexact HO

end Runs

end Cert.KernelIdeal.Gath
-- ==== Proof.Ring.lean ====
/-
  The hops of the all-gather, one after the other, from the state the entry leaves to the end of the call.
-/
module

public import proofs.«01_k».proof.Proof.Hops

@[expose] public section

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rest of the program -/

abbrev flushTC (c : Dev nD) (h : Fin 15) : PG F PUnit :=
  flushT (Memref.whole main_v3_0) (Memref.isWhole_whole _) (Memref.whole cc0_scratch10) (Memref.isWhole_whole _) cc0_scratch14 c h
abbrev flushBC (c : Dev nD) (h : Fin 15) : PG F PUnit :=
  flushB (Memref.whole main_v3_0) (Memref.isWhole_whole _) (Memref.whole cc0_scratch11) (Memref.isWhole_whole _) cc0_scratch14 c h
abbrev flushLC (c : Dev nD) (h : Fin 15) : PG F PUnit :=
  flushL (Memref.whole main_v3_1) (Memref.isWhole_whole _) (Memref.whole cc0_scratch12) (Memref.isWhole_whole _) cc0_scratch14 c h
abbrev flushRC (c : Dev nD) (h : Fin 15) : PG F PUnit :=
  flushR (Memref.whole main_v3_1) (Memref.isWhole_whole _) (Memref.whole cc0_scratch13) (Memref.isWhole_whole _) cc0_scratch14 c h
abbrev castsFstC (c : Dev nD) (s : F .f32) : PG F PUnit :=
  castsFst (Memref.whole main_v3_0) (Memref.isWhole_whole _) (Memref.whole main_v3_1) (Memref.isWhole_whole _) G0 G1 (Memref.whole cc0_scratch10) (Memref.isWhole_whole _)
    (Memref.whole cc0_scratch11) (Memref.isWhole_whole _) (Memref.whole cc0_scratch12) (Memref.isWhole_whole _) (Memref.whole cc0_scratch13) (Memref.isWhole_whole _) cc0_scratch14 c s
abbrev castsNextC (c : Dev nD) (s : F .f32) (p h : Fin 15) : PG F PUnit :=
  castsNext (Memref.whole main_v3_0) (Memref.isWhole_whole _) (Memref.whole main_v3_1) (Memref.isWhole_whole _) G0 G1 (Memref.whole cc0_scratch10) (Memref.isWhole_whole _)
    (Memref.whole cc0_scratch11) (Memref.isWhole_whole _) (Memref.whole cc0_scratch12) (Memref.isWhole_whole _) (Memref.whole cc0_scratch13) (Memref.isWhole_whole _) cc0_scratch14 c s p h
abbrev hopC (c : Dev nD) (s : F .f32) (p h n : Fin 15) : PG F PUnit :=
  hop (Memref.whole main_v3_0) (Memref.isWhole_whole _) (Memref.whole main_v3_1) (Memref.isWhole_whole _) G0 (Memref.isWhole_whole _) G1 (Memref.isWhole_whole _)
    cc0_scratch2 cc0_scratch3 cc0_scratch4 cc0_scratch5 cc0_scratch6 cc0_scratch7 cc0_scratch8 cc0_scratch9 (Memref.whole cc0_scratch10) (Memref.isWhole_whole _)
    (Memref.whole cc0_scratch11) (Memref.isWhole_whole _) (Memref.whole cc0_scratch12) (Memref.isWhole_whole _) (Memref.whole cc0_scratch13) (Memref.isWhole_whole _) cc0_scratch14 c s p h n

/-- The waits for the departures. -/
def endAll (c : Dev nD) : PG F PUnit := do
  endsC c 0; endsC c 1; endsC c 2; endsC c 3; endsC c 4; endsC c 5; endsC c 6; endsC c 7; endsC c 8; endsC c 9; endsC c 10; endsC c 11; endsC c 12; endsC c 13; endsC c 14

/-- All after the entry. -/
def restC (c : Dev nD) (s : F .f32) : PG F PUnit := do
  sendsC c 0
  casts0C c s
  waitsC c 0
  sendsC c 1
  castsFstC c s
  hopC c s 0 1 2; hopC c s 1 2 3; hopC c s 2 3 4; hopC c s 3 4 5; hopC c s 4 5 6; hopC c s 5 6 7; hopC c s 6 7 8; hopC c s 7 8 9; hopC c s 8 9 10; hopC c s 9 10 11
  hopC c s 10 11 12; hopC c s 11 12 13; hopC c s 12 13 14
  waitsC c 14
  castsNextC c s 13 14
  flushTC c 14
  flushBC c 14
  flushLC c 14
  flushRC c 14
  endAll c

section Runs
variable (I : Inp F) (K : GSem nD τ sig → ℕ) (c : Dev nD)

theorem ret_step (Q : PUnit → sProp 𝕄) : Q ⟨⟩ ⊢ WP c (pure ⟨⟩) Q := by
  show Q ⟨⟩ ⊢ wp frame (wpE (defs₀ (F := F)) 𝒱₀ (c : Thread nD τ) none) Set.univ (Prog.ret ⟨⟩) Q
  rw [wp_ret]
  iintro H
  imodintro
  iexact H

/-- The state before hop h's arrivals: the copies up to hop h begun, the arrivals before it had, piece h's casts on their way out. -/
def St (h : Fin 15) : sProp 𝕄 :=
  iprop(records I K ∗ four (fun κ => SendSt κ c (h.val + 1)) ∗ four (fun κ => RecvSt κ c h.val) ∗ four (fun κ => Pend I κ c h.castSucc) ∗ ow c (owe c (h.val + 1)))

theorem flushT_ok (h : Fin 15) (r : Fin 16) : Flushes I K c 0 r (flushTC c h) := fun n kk Q => flush_step I K 0 c kk Q r n (semAt19 0)
theorem flushB_ok (h : Fin 15) (r : Fin 16) : Flushes I K c 1 r (flushBC c h) := fun n kk Q => flush_step I K 1 c kk Q r n (semAt19 1)
theorem flushL_ok (h : Fin 15) (r : Fin 16) : Flushes I K c 2 r (flushLC c h) := fun n kk Q => flush_step I K 2 c kk Q r n (semAt19 2)
theorem flushR_ok (h : Fin 15) (r : Fin 16) : Flushes I K c 3 r (flushRC c h) := fun n kk Q => flush_step I K 3 c kk Q r n (semAt19 3)

/-- A hop in the middle, whatever waits free the stages. -/
theorem mid_run (kk : PUnit → PG F PUnit) (Q : PUnit → sProp 𝕄) (h n : Fin 15) (hn : n.val = h.val + 1) {ft fl fb fr : PG F PUnit}
    (ht : Flushes I K c 0 h.castSucc ft) (hl : Flushes I K c 2 h.castSucc fl) (hb : Flushes I K c 1 h.castSucc fb) (hr : Flushes I K c 3 h.castSucc fr) :
    St I K c h ⊢ iprop((St I K c n -∗ WP c (kk ⟨⟩) Q) -∗ WP c (waitsC c h >>= fun _ => sendsC c n >>= fun _ => castsC c (I.s c) h ft fl fb fr >>= kk) Q) := by
  have e : h.succ = n.castSucc := Fin.ext hn.symm
  unfold St
  rw [← hn, ← e]
  iintro ⟨#Hrec, S, R, P, HO⟩ Hk
  iapply (waits_run I K c _ Q h n.val (by omega)) $$ [R HO]
  · isplitr; · iexact Hrec
    isplitl [R]; · iexact R
    iexact HO
  rw [← hn, e]
  iintro ⟨R, L, Rt, HO⟩
  iapply (sends_run I K c _ Q n) $$ [S L HO]
  · isplitr; · iexact Hrec
    isplitl [S]; · iexact S
    isplitl [L]; · iexact L
    iexact HO
  iintro ⟨S, HO⟩
  iapply (casts_run I K c kk Q h (n.val + 1) ht hl hb hr) $$ [P Rt HO]
  · isplitr; · iexact Hrec
    isplitl [P]; · iexact P
    rw [e]
    isplitl [Rt]; · iexact Rt
    iexact HO
  iintro ⟨P, HO⟩
  iapply Hk
  isplitr; · iexact Hrec
  isplitl [S]; · iexact S
  isplitl [R]; · iexact R
  rw [e]
  isplitl [P]; · iexact P
  iexact HO

theorem hop_run (kk : PUnit → PG F PUnit) (Q : PUnit → sProp 𝕄) (p h n : Fin 15) (hn : n.val = h.val + 1) :
    St I K c h ⊢ iprop((St I K c n -∗ WP c (kk ⟨⟩) Q) -∗ WP c (hopC c (I.s c) p h n >>= kk) Q) := by
  unfold hopC hop castsNext
  simp only [Prog.bind_assoc]
  exact mid_run I K c kk Q h n hn (flushT_ok I K c p h.castSucc) (flushL_ok I K c p h.castSucc) (flushB_ok I K c p h.castSucc) (flushR_ok I K c p h.castSucc)

/-- The departures had before n. -/
def En (n : ℕ) : sProp 𝕄 := iprop(records I K ∗ four (fun κ => DoneSt I κ c n) ∗ ow c (owe c 15))
theorem en_step (kk : PUnit → PG F PUnit) (Q : PUnit → sProp 𝕄) (h : Fin 15) (n m : ℕ) (hn : n = h.val) (hm : m = n + 1) :
    En I K c n ⊢ iprop((En I K c m -∗ WP c (kk ⟨⟩) Q) -∗ WP c (endsC c h >>= kk) Q) := by
  subst hm hn
  unfold En
  iintro ⟨#Hrec, D, HO⟩ Hk
  iapply (ends_run I K c kk Q h) $$ [D HO]
  · isplitr; · iexact Hrec
    isplitl [D]; · iexact D
    iexact HO
  iintro ⟨D, HO⟩
  iapply Hk
  isplitr; · iexact Hrec
  isplitl [D]; · iexact D
  iexact HO

theorem endAll_run (kk : PUnit → PG F PUnit) (Q : PUnit → sProp 𝕄) :
    En I K c 0 ⊢ iprop((En I K c 15 -∗ WP c (kk ⟨⟩) Q) -∗ WP c (endAll c >>= kk) Q) := by
  unfold endAll
  simp only [Prog.bind_assoc]
  iintro S Hk
  iapply (en_step I K c _ Q 0 0 1 rfl rfl) $$ S
  iintro S
  iapply (en_step I K c _ Q 1 1 2 rfl rfl) $$ S
  iintro S
  iapply (en_step I K c _ Q 2 2 3 rfl rfl) $$ S
  iintro S
  iapply (en_step I K c _ Q 3 3 4 rfl rfl) $$ S
  iintro S
  iapply (en_step I K c _ Q 4 4 5 rfl rfl) $$ S
  iintro S
  iapply (en_step I K c _ Q 5 5 6 rfl rfl) $$ S
  iintro S
  iapply (en_step I K c _ Q 6 6 7 rfl rfl) $$ S
  iintro S
  iapply (en_step I K c _ Q 7 7 8 rfl rfl) $$ S
  iintro S
  iapply (en_step I K c _ Q 8 8 9 rfl rfl) $$ S
  iintro S
  iapply (en_step I K c _ Q 9 9 10 rfl rfl) $$ S
  iintro S
  iapply (en_step I K c _ Q 10 10 11 rfl rfl) $$ S
  iintro S
  iapply (en_step I K c _ Q 11 11 12 rfl rfl) $$ S
  iintro S
  iapply (en_step I K c _ Q 12 12 13 rfl rfl) $$ S
  iintro S
  iapply (en_step I K c _ Q 13 13 14 rfl rfl) $$ S
  iintro S
  iapply (en_step I K c _ Q 14 14 15 rfl rfl) $$ S
  iintro S
  iapply Hk; iexact S

/-- What the entry leaves; what is left at the end. -/
def Start : sProp 𝕄 :=
  iprop(records I K ∗ four (fun κ => SendSt κ c 0) ∗ four (fun κ => RecvSt κ c 0) ∗ four (fun κ => Idle I κ c 0) ∗ lefts I c 0 ∗ rights I c 0 ∗ ow c (owe c 0))
def Final : sProp 𝕄 :=
  iprop(four (fun κ => DoneSt I κ c 15) ∗ four (fun κ => RecvSt κ c 15) ∗ four (fun κ => Idle I κ c 16) ∗ lefts I c 15 ∗ ow c 0)

theorem four_eq (Φ : Str → sProp 𝕄) : four Φ = iprop(Φ 0 ∗ Φ 1 ∗ Φ 2 ∗ Φ 3) := rfl
theorem send_done : (four fun κ => SendSt κ c 15 : sProp 𝕄) = four fun κ => DoneSt I κ c 0 :=
  congrArg four (funext fun κ => by unfold SendSt DoneSt; rw [prog_full, prog_zero])

/-- The run of all after the entry. -/
theorem rest_run (Q : PUnit → sProp 𝕄) : Start I K c ⊢ iprop((Final I c -∗ Q ⟨⟩) -∗ WP c (restC c (I.s c)) Q) := by
  rw [← Prog.bind_pure (restC c (I.s c))]
  unfold restC Start
  simp only [Prog.bind_assoc]
  iintro ⟨#Hrec, S, R, D, L, Rt, HO⟩ Hk
  iapply (sends_run I K c _ Q 0) $$ [S L HO]
  · isplitr; · iexact Hrec
    isplitl [S]; · iexact S
    isplitl [L]; · iexact L
    iexact HO
  iintro ⟨S, HO⟩
  iapply (casts0_run I c _ Q) $$ [D Rt]
  · isplitl [D]; · iexact D
    iexact Rt
  iintro P
  iapply (mid_run I K c _ Q 0 1 rfl (ft := _) (fl := _) (fb := _) (fr := _) (fun n kk Q => flush_step I K 0 c kk Q 0 n (semAt19 0)) (fun n kk Q => flush_step I K 2 c kk Q 0 n (semAt19 2))
    (fun n kk Q => flush_step I K 1 c kk Q 0 n (semAt19 1)) (fun n kk Q => flush_step I K 3 c kk Q 0 n (semAt19 3))) $$ [S R P HO]
  · unfold St
    isplitr; · iexact Hrec
    isplitl [S]; · iexact S
    isplitl [R]; · iexact R
    isplitl [P]; · iexact P
    iexact HO
  iintro S
  iapply (hop_run I K c _ Q 0 1 2 rfl) $$ S
  iintro S
  iapply (hop_run I K c _ Q 1 2 3 rfl) $$ S
  iintro S
  iapply (hop_run I K c _ Q 2 3 4 rfl) $$ S
  iintro S
  iapply (hop_run I K c _ Q 3 4 5 rfl) $$ S
  iintro S
  iapply (hop_run I K c _ Q 4 5 6 rfl) $$ S
  iintro S
  iapply (hop_run I K c _ Q 5 6 7 rfl) $$ S
  iintro S
  iapply (hop_run I K c _ Q 6 7 8 rfl) $$ S
  iintro S
  iapply (hop_run I K c _ Q 7 8 9 rfl) $$ S
  iintro S
  iapply (hop_run I K c _ Q 8 9 10 rfl) $$ S
  iintro S
  iapply (hop_run I K c _ Q 9 10 11 rfl) $$ S
  iintro S
  iapply (hop_run I K c _ Q 10 11 12 rfl) $$ S
  iintro S
  iapply (hop_run I K c _ Q 11 12 13 rfl) $$ S
  iintro S
  iapply (hop_run I K c _ Q 12 13 14 rfl) $$ S
  iintro S
  unfold St
  icases S with ⟨-, S, R, P, HO⟩
  iapply (waits_run I K c _ Q 14 15 (by decide)) $$ [R HO]
  · isplitr; · iexact Hrec
    isplitl [R]; · iexact R
    iexact HO
  iintro ⟨R, L, Rt, HO⟩
  iapply (casts_run I K c _ Q 14 15 (flushT_ok I K c 13 _) (flushL_ok I K c 13 _) (flushB_ok I K c 13 _) (flushR_ok I K c 13 _)) $$ [P Rt HO]
  · isplitr; · iexact Hrec
    isplitl [P]; · iexact P
    isplitl [Rt]; · iexact Rt
    iexact HO
  iintro ⟨P, HO⟩
  ihave P' := (Entails.of_eq (four_eq _)) $$ P
  icases P' with ⟨P0, P1, P2, P3⟩
  iapply (flushT_ok I K c 14 15 15 _ Q) $$ [P0 HO]
  · isplitr; · iexact Hrec
    isplitl [P0]; · iexact P0
    iexact HO
  iintro ⟨P0, HO⟩
  iapply (flushB_ok I K c 14 15 15 _ Q) $$ [P1 HO]
  · isplitr; · iexact Hrec
    isplitl [P1]; · iexact P1
    iexact HO
  iintro ⟨P1, HO⟩
  iapply (flushL_ok I K c 14 15 15 _ Q) $$ [P2 HO]
  · isplitr; · iexact Hrec
    isplitl [P2]; · iexact P2
    iexact HO
  iintro ⟨P2, HO⟩
  iapply (flushR_ok I K c 14 15 15 _ Q) $$ [P3 HO]
  · isplitr; · iexact Hrec
    isplitl [P3]; · iexact P3
    iexact HO
  iintro ⟨P3, HO⟩
  iapply (endAll_run I K c _ Q) $$ [S HO]
  · unfold En
    isplitr; · iexact Hrec
    rw [← send_done]
    isplitl [S]; · iexact S
    iexact HO
  unfold En
  iintro ⟨-, S, HO⟩
  iapply (ret_step c Q)
  iapply Hk
  unfold Final
  rw [owe_end]
  isplitl [S]; · iexact S
  isplitl [R]; · iexact R
  isplitl [P0 P1 P2 P3]
  · rw [four_eq]
    isplitl [P0]; · iexact P0
    isplitl [P1]; · iexact P1
    isplitl [P2]; · iexact P2
    iexact P3
  isplitl [L]; · iexact L
  iexact HO

end Runs

end Cert.KernelIdeal.Gath
-- ==== Proof.Split.lean ====
/-
  The gathered arrays and the results held piece by piece: how the whole of each falls into its two streams' sixteen pieces, and the device's own block into two.
-/
module

public import proofs.«01_k».proof.Proof.Ring

@[expose] public section

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the pieces lie -/

section Sets
variable (o : Dev nD)

theorem mem0 (i : S4096x4096.Idx) : i ∈ (sl 0 o).view.set ↔ (i 0).val < 2048 ∧ 256 * o.val ≤ (i 1).val ∧ (i 1).val < 256 * o.val + 256 := by
  rw [show (sl 0 o).view.set = (rect 0 o).set from View.set_slice_whole _ _]
  refine (Rect.mem_set_unit (s := S4096x4096)).trans ?_
  rw [Fin.forall_fin_two]
  show (0 ≤ (i 0).val ∧ (i 0).val < 0 + 2048) ∧ (256 * o.val ≤ (i 1).val ∧ (i 1).val < 256 * o.val + 256) ↔ _
  omega
theorem mem1 (i : S4096x4096.Idx) : i ∈ (sl 1 o).view.set ↔ 2048 ≤ (i 0).val ∧ 256 * o.val ≤ (i 1).val ∧ (i 1).val < 256 * o.val + 256 := by
  rw [show (sl 1 o).view.set = (rect 1 o).set from View.set_slice_whole _ _]
  refine (Rect.mem_set_unit (s := S4096x4096)).trans ?_
  rw [Fin.forall_fin_two]
  show (2048 ≤ (i 0).val ∧ (i 0).val < 2048 + 2048) ∧ (256 * o.val ≤ (i 1).val ∧ (i 1).val < 256 * o.val + 256) ↔ _
  have : (i 0).val < 4096 := (i 0).isLt
  omega
theorem mem2 (i : S4096x8192.Idx) : i ∈ (sl 2 o).view.set ↔ (i 1).val < 4096 ∧ 256 * o.val ≤ (i 0).val ∧ (i 0).val < 256 * o.val + 256 := by
  rw [show (sl 2 o).view.set = (rect 2 o).set from View.set_slice_whole _ _]
  refine (Rect.mem_set_unit (s := S4096x8192)).trans ?_
  rw [Fin.forall_fin_two]
  show (256 * o.val ≤ (i 0).val ∧ (i 0).val < 256 * o.val + 256) ∧ (0 ≤ (i 1).val ∧ (i 1).val < 0 + 4096) ↔ _
  omega
theorem mem3 (i : S4096x8192.Idx) : i ∈ (sl 3 o).view.set ↔ 4096 ≤ (i 1).val ∧ 256 * o.val ≤ (i 0).val ∧ (i 0).val < 256 * o.val + 256 := by
  rw [show (sl 3 o).view.set = (rect 3 o).set from View.set_slice_whole _ _]
  refine (Rect.mem_set_unit (s := S4096x8192)).trans ?_
  rw [Fin.forall_fin_two]
  show (256 * o.val ≤ (i 0).val ∧ (i 0).val < 256 * o.val + 256) ∧ (4096 ≤ (i 1).val ∧ (i 1).val < 4096 + 4096) ↔ _
  have : (i 1).val < 8192 := (i 1).isLt
  omega

end Sets

/-- The pieces of an array of x, and of one of w: which half, and which device's. -/
def pX : Bool × Dev nD → Finset S4096x4096.Idx
  | (false, o) => (sl 0 o).view.set
  | (true, o) => (sl 1 o).view.set
def pW : Bool × Dev nD → Finset S4096x8192.Idx
  | (false, o) => (sl 2 o).view.set
  | (true, o) => (sl 3 o).view.set

theorem mem_pX (b : Bool) (o : Dev nD) (i : S4096x4096.Idx) :
    i ∈ pX (b, o) ↔ (b = decide (2048 ≤ (i 0).val)) ∧ 256 * o.val ≤ (i 1).val ∧ (i 1).val < 256 * o.val + 256 := by
  cases b
  · refine (mem0 o i).trans (and_congr_left fun _ => ?_)
    rw [eq_comm, decide_eq_false_iff_not]; omega
  · refine (mem1 o i).trans (and_congr_left fun _ => ?_)
    rw [eq_comm, decide_eq_true_iff]
theorem mem_pW (b : Bool) (o : Dev nD) (i : S4096x8192.Idx) :
    i ∈ pW (b, o) ↔ (b = decide (4096 ≤ (i 1).val)) ∧ 256 * o.val ≤ (i 0).val ∧ (i 0).val < 256 * o.val + 256 := by
  cases b
  · refine (mem2 o i).trans (and_congr_left fun _ => ?_)
    rw [eq_comm, decide_eq_false_iff_not]; omega
  · refine (mem3 o i).trans (and_congr_left fun _ => ?_)
    rw [eq_comm, decide_eq_true_iff]

theorem pX_disj (p p' : Bool × Dev nD) (h : p ≠ p') : Disjoint (pX p) (pX p') := by
  rw [Finset.disjoint_left]
  intro i hi hi'
  have h1 := (mem_pX p.1 p.2 i).mp hi
  have h2 := (mem_pX p'.1 p'.2 i).mp hi'
  exact h (Prod.ext (h1.1.trans h2.1.symm) (Fin.ext (by omega)))
theorem pW_disj (p p' : Bool × Dev nD) (h : p ≠ p') : Disjoint (pW p) (pW p') := by
  rw [Finset.disjoint_left]
  intro i hi hi'
  have h1 := (mem_pW p.1 p.2 i).mp hi
  have h2 := (mem_pW p'.1 p'.2 i).mp hi'
  exact h (Prod.ext (h1.1.trans h2.1.symm) (Fin.ext (by omega)))
theorem pX_cover : Finset.univ.biUnion pX = Finset.univ := by
  ext i
  simp only [Finset.mem_biUnion, Finset.mem_univ, true_and, iff_true]
  have hi : (i 1).val < 4096 := (i 1).isLt
  refine ⟨(decide (2048 ≤ (i 0).val), ⟨(i 1).val / 256, by show _ < 16; omega⟩), (mem_pX _ _ i).mpr ⟨rfl, ?_, ?_⟩⟩
  · show 256 * ((i 1).val / 256) ≤ _; omega
  · show _ < 256 * ((i 1).val / 256) + 256; omega
theorem pW_cover : Finset.univ.biUnion pW = Finset.univ := by
  ext i
  simp only [Finset.mem_biUnion, Finset.mem_univ, true_and, iff_true]
  have hi : (i 0).val < 4096 := (i 0).isLt
  refine ⟨(decide (4096 ≤ (i 1).val), ⟨(i 0).val / 256, by show _ < 16; omega⟩), (mem_pW _ _ i).mpr ⟨rfl, ?_, ?_⟩⟩
  · show 256 * ((i 0).val / 256) ≤ _; omega
  · show _ < 256 * ((i 0).val / 256) + 256; omega

/-! ## Whole arrays piece by piece -/

omit [FloatOps F] in
theorem two_halves (Φ : Bool × Dev nD → sProp 𝕄) :
    bigSep Finset.univ Φ = iprop((bigSep Finset.univ fun o => Φ (false, o)) ∗ (bigSep Finset.univ fun o => Φ (true, o))) := by
  rw [bigSep_univ_prod, bigSep_univ_eq_bigSepL [false, true] (by decide) (by decide), bigSepL_cons_cons, bigSepL_singleton]
  rfl

section Whole
variable (c : Dev nD) (q : PosShare TreeShare)

theorem split_gx (f : Buf (Elt F) (G0.view.loc (c : Thread nD τ))) :
    (G0.view.loc (c : Thread nD τ) ↦{q} f : sProp 𝕄)
      = iprop((bigSep Finset.univ fun o => (sl 0 o).view.loc (c : Thread nD τ) ↦[(sl 0 o).view.set]{q} f)
        ∗ (bigSep Finset.univ fun o => (sl 1 o).view.loc (c : Thread nD τ) ↦[(sl 1 o).view.set]{q} f)) :=
  (Ring.pointsTo_blocks (ℓ := G0.view.loc (c : Thread nD τ)) pX pX_disj pX_cover f).trans (two_halves _)
theorem split_gw (f : Buf (Elt F) (G1.view.loc (c : Thread nD τ))) :
    (G1.view.loc (c : Thread nD τ) ↦{q} f : sProp 𝕄)
      = iprop((bigSep Finset.univ fun o => (sl 2 o).view.loc (c : Thread nD τ) ↦[(sl 2 o).view.set]{q} f)
        ∗ (bigSep Finset.univ fun o => (sl 3 o).view.loc (c : Thread nD τ) ↦[(sl 3 o).view.set]{q} f)) :=
  (Ring.pointsTo_blocks (ℓ := G1.view.loc (c : Thread nD τ)) pW pW_disj pW_cover f).trans (two_halves _)

abbrev O0 : Memref sig .tc .hbm S4096x4096 .bf16 := Memref.whole main_v3_0
abbrev O1 : Memref sig .tc .hbm S4096x8192 .bf16 := Memref.whole main_v3_1

theorem split_ox (f : Buf (Elt F) (O0.view.loc (c : Thread nD τ))) :
    (O0.view.loc (c : Thread nD τ) ↦{q} f : sProp 𝕄)
      = iprop((bigSep Finset.univ fun o => (osl 0 o).view.loc (c : Thread nD τ) ↦[(osl 0 o).view.set]{q} f)
        ∗ (bigSep Finset.univ fun o => (osl 1 o).view.loc (c : Thread nD τ) ↦[(osl 1 o).view.set]{q} f)) :=
  (Ring.pointsTo_blocks (ℓ := O0.view.loc (c : Thread nD τ)) pX pX_disj pX_cover f).trans (two_halves _)
theorem split_ow (f : Buf (Elt F) (O1.view.loc (c : Thread nD τ))) :
    (O1.view.loc (c : Thread nD τ) ↦{q} f : sProp 𝕄)
      = iprop((bigSep Finset.univ fun o => (osl 2 o).view.loc (c : Thread nD τ) ↦[(osl 2 o).view.set]{q} f)
        ∗ (bigSep Finset.univ fun o => (osl 3 o).view.loc (c : Thread nD τ) ↦[(osl 3 o).view.set]{q} f)) :=
  (Ring.pointsTo_blocks (ℓ := O1.view.loc (c : Thread nD τ)) pW pW_disj pW_cover f).trans (two_halves _)

end Whole

/-! ## The device's own blocks -/

section Own
variable (I : Inp F) (c : Dev nD)

theorem o1 : k0_off1 c = ![0, 256 * c.val] := by revert c; decide +kernel
theorem o2 : k0_off2 c = ![256 * c.val, 0] := by revert c; decide +kernel

/-- The places of the device's own blocks. -/
abbrev rX : Rect S4096x4096 := Rect.unit (s := S4096x4096) (k0_off1 c) S4096x256.size (k0_off1_inb c)
abbrev rW : Rect S4096x8192 := Rect.unit (s := S4096x8192) (k0_off2 c) S256x8192.size (k0_off2_inb c)

theorem rX_set : (G0.access (rX c)).set = (sl 0 c).view.set ∪ (sl 1 c).view.set := by
  ext i
  rw [show (G0.access (rX c)).set = (rX c).set from View.set_slice_whole _ _]
  refine (Rect.mem_set_unit (s := S4096x4096)).trans (Iff.trans ?_ Finset.mem_union.symm)
  rw [Fin.forall_fin_two, o1]
  refine Iff.trans ?_ (or_congr (mem0 c i) (mem1 c i)).symm
  show (0 ≤ (i 0).val ∧ (i 0).val < 0 + 4096) ∧ (256 * c.val ≤ (i 1).val ∧ (i 1).val < 256 * c.val + 256) ↔ _
  have : (i 0).val < 4096 := (i 0).isLt
  omega
theorem rW_set : (G1.access (rW c)).set = (sl 2 c).view.set ∪ (sl 3 c).view.set := by
  ext i
  rw [show (G1.access (rW c)).set = (rW c).set from View.set_slice_whole _ _]
  refine (Rect.mem_set_unit (s := S4096x8192)).trans (Iff.trans ?_ Finset.mem_union.symm)
  rw [Fin.forall_fin_two, o2]
  refine Iff.trans ?_ (or_congr (mem2 c i) (mem3 c i)).symm
  show (256 * c.val ≤ (i 0).val ∧ (i 0).val < 256 * c.val + 256) ∧ (0 ≤ (i 1).val ∧ (i 1).val < 0 + 8192) ↔ _
  have : (i 1).val < 8192 := (i 1).isLt
  omega

theorem disj01 : Disjoint (sl 0 c).view.set (sl 1 c).view.set := pX_disj (false, c) (true, c) (by simp)
theorem disj23 : Disjoint (sl 2 c).view.set (sl 3 c).view.set := pW_disj (false, c) (true, c) (by simp)

/-- The gathered arrays, read at the device's own place, are its own blocks. -/
theorem read_own_x : (G0.access (rX c)).read (Elt F) (gX I) = I.x c := by
  funext j
  rw [View.read_apply]
  show gX I ((rX c).emb j) = _
  have e0 : ((rX c).emb j 0).val = (j 0).val := by
    show k0_off1 c 0 + 1 * (j 0).val = _
    rw [o1]; show 0 + 1 * _ = _; omega
  have e1 : ((rX c).emb j 1).val = 256 * c.val + (j 1).val := by
    show k0_off1 c 1 + 1 * (j 1).val = _
    rw [o1]; show 256 * c.val + 1 * _ = _; omega
  have hj : (j 1).val < 256 := (j 1).isLt
  unfold gX
  refine congr (congrArg I.x ?_) ?_
  · refine Fin.ext ?_; show ((rX c).emb j 1).val / 256 = _; omega
  · funext a
    refine Fin.ext ?_
    match a with
    | 0 => exact e0
    | 1 => show ((rX c).emb j 1).val % 256 = _; omega
theorem read_own_w : (G1.access (rW c)).read (Elt F) (gW I) = I.w c := by
  funext j
  rw [View.read_apply]
  show gW I ((rW c).emb j) = _
  have e0 : ((rW c).emb j 0).val = 256 * c.val + (j 0).val := by
    show k0_off2 c 0 + 1 * (j 0).val = _
    rw [o2]; show 256 * c.val + 1 * _ = _; omega
  have e1 : ((rW c).emb j 1).val = (j 1).val := by
    show k0_off2 c 1 + 1 * (j 1).val = _
    rw [o2]; show 0 + 1 * _ = _; omega
  have hj : (j 0).val < 256 := (j 0).isLt
  unfold gW
  refine congr (congrArg I.w ?_) ?_
  · refine Fin.ext ?_; show ((rW c).emb j 0).val / 256 = _; omega
  · funext a
    refine Fin.ext ?_
    match a with
    | 0 => show ((rW c).emb j 0).val % 256 = _; omega
    | 1 => exact e1

/-- Two pieces held at some contents are the own block held at some contents. -/
theorem own_x : iprop(pieceAny 0 c c ∗ pieceAny 1 c c) ⊢ (iprop(∃ f, (G0.access (rX c)).loc (c : Thread nD τ) ↦[(G0.access (rX c)).set]{fullShare} f) : sProp 𝕄) := by
  unfold pieceAny
  iintro ⟨⟨%f, H⟩, ⟨%g, H'⟩⟩
  rw [rX_set]
  iexists ((sl 1 c).view.set.piecewise g f)
  iapply (pointsTo_join (ℓ := G0.view.loc (c : Thread nD τ)) (disj01 c))
  isplitl [H]; · iexact H
  iexact H'
theorem own_w : iprop(pieceAny 2 c c ∗ pieceAny 3 c c) ⊢ (iprop(∃ f, (G1.access (rW c)).loc (c : Thread nD τ) ↦[(G1.access (rW c)).set]{fullShare} f) : sProp 𝕄) := by
  unfold pieceAny
  iintro ⟨⟨%f, H⟩, ⟨%g, H'⟩⟩
  rw [rW_set]
  iexists ((sl 3 c).view.set.piecewise g f)
  iapply (pointsTo_join (ℓ := G1.view.loc (c : Thread nD τ)) (disj23 c))
  isplitl [H]; · iexact H
  iexact H'

/-- The own block stored is the two pieces at the gathered contents. -/
theorem stored_x (f : Buf (Elt F) ((G0.access (rX c)).loc (c : Thread nD τ))) :
    ((G0.access (rX c)).loc (c : Thread nD τ) ↦[(G0.access (rX c)).set]{fullShare} (G0.access (rX c)).write (Elt F) f (k0_pay2 (F := F) (I.x c)) Finset.univ : sProp 𝕄)
      ⊢ iprop(pieceAt I 0 fullShare c (org 0 c 0) ∗ pieceAt I 1 fullShare c (org 1 c 0)) := by
  rw [show k0_pay2 (F := F) (I.x c) = (G0.access (rX c)).read (Elt F) (gX I) from by unfold k0_pay2; dsimp only; rw [shapeCast_id, shapeCast_id, read_own_x]]
  rw [pointsTo_congr (g := gX I) (fun i hi => by rw [View.write_read_eq_piecewise, View.setOn_univ]; exact Finset.piecewise_eq_of_mem _ _ _ hi)]
  rw [rX_set, org_zero, org_zero]
  unfold pieceAt
  exact (pointsTo_union (ℓ := G0.view.loc (c : Thread nD τ)) (disj01 c)).1
theorem stored_w (f : Buf (Elt F) ((G1.access (rW c)).loc (c : Thread nD τ))) :
    ((G1.access (rW c)).loc (c : Thread nD τ) ↦[(G1.access (rW c)).set]{fullShare} (G1.access (rW c)).write (Elt F) f (k0_pay3 (F := F) (I.w c)) Finset.univ : sProp 𝕄)
      ⊢ iprop(pieceAt I 2 fullShare c (org 2 c 0) ∗ pieceAt I 3 fullShare c (org 3 c 0)) := by
  rw [show k0_pay3 (F := F) (I.w c) = (G1.access (rW c)).read (Elt F) (gW I) from by unfold k0_pay3; dsimp only; rw [shapeCast_id, shapeCast_id, read_own_w]]
  rw [pointsTo_congr (g := gW I) (fun i hi => by rw [View.write_read_eq_piecewise, View.setOn_univ]; exact Finset.piecewise_eq_of_mem _ _ _ hi)]
  rw [rW_set, org_zero, org_zero]
  unfold pieceAt
  exact (pointsTo_union (ℓ := G1.view.loc (c : Thread nD τ)) (disj23 c)).1

end Own

end Cert.KernelIdeal.Gath
-- ==== Proof.Entry.lean ====
/-
  The all-gather's call from its first operation to its last: the barrier with both neighbours, the device's own blocks put in place, the hops, and all that was lent
  gathered again at the end.
-/
module

public import proofs.«01_k».proof.Proof.Split

@[expose] public section

set_option maxRecDepth 8000

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the call takes and leaves -/

section State
variable (I : Inp F) (K : GSem nD τ sig → ℕ) (c : Dev nD)

/-- The duties at the neighbours' barriers, and what waits at the own one. -/
def Bars : sProp 𝕄 :=
  iprop(dutyTok ER (cellB (prv c)) 0 false ∗ dutyTok ER (cellB (nxt c)) 0 true ∗ cred (tallyAt (cellB c) () 2) ∗ atPos ER (cellB c) 0 ∅ 0)
/-- What hop h of stream κ needs to send, but for the neighbour's place. -/
def SendTok (κ : Str) (h : Fin 15) : sProp 𝕄 :=
  iprop(dutyTok ER (cellS c κ h) 0 false ∗ dutyTok ER (cellR (fwd κ c) κ h) 0 false ∗ reached ER (cellS c κ h) 0 ∗ atPos ER (cellS c κ h) 0 ∅ 0)
/-- A stream's ring cells, open. -/
def Cells (κ : Str) : sProp 𝕄 :=
  iprop((bigSep Finset.univ fun h => SendTok (F := F) c κ h) ∗ (bigSep Finset.univ fun h => reached ER (cellR c κ h) 0) ∗ (bigSep Finset.univ fun h => RecvTodo (F := F) κ c h)
    ∗ semVal (cellL κ c) 0)
/-- All of the protocol that device c starts with. -/
def Ready : sProp 𝕄 := iprop(records I K ∗ Bars c ∗ four (Cells c))
/-- The buffers it fills, at any contents. -/
def Bufs : sProp 𝕄 :=
  iprop((∃ f, G0.view.loc (c : Thread nD τ) ↦{fullShare} f) ∗ (∃ f, G1.view.loc (c : Thread nD τ) ↦{fullShare} f) ∗ four (fun κ => stageAny κ c)
    ∗ (∃ f, O0.view.loc (c : Thread nD τ) ↦{fullShare} f) ∗ (∃ f, O1.view.loc (c : Thread nD τ) ↦{fullShare} f))
/-- The same buffers at the end. -/
def Filled : sProp 𝕄 :=
  iprop((∃ f, G0.view.loc (c : Thread nD τ) ↦{fullShare} f) ∗ (∃ f, G1.view.loc (c : Thread nD τ) ↦{fullShare} f) ∗ four (fun κ => stageAny κ c)
    ∗ (O0.view.loc (c : Thread nD τ) ↦{fullShare} gXB I c) ∗ (O1.view.loc (c : Thread nD τ) ↦{fullShare} gWB I))
/-- A stream's semaphores, at zero. -/
def Zeros (κ : Str) : sProp 𝕄 :=
  iprop((bigSep Finset.univ fun h => semVal (cellS c κ h) 0) ∗ (bigSep Finset.univ fun h => semVal (cellR c κ h) 0) ∗ semVal (cellL κ c) 0)

end State

/-! ## Numbered families -/

omit [FloatOps F] in
theorem fin_succ {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp [Fin.succ_ne_zero]), bigSep_map]; rfl
omit [FloatOps F] in
theorem fin_last {n : ℕ} (Φ : Fin (n + 1) → sProp 𝕄) : bigSep Finset.univ Φ = iprop(Φ (Fin.last n) ∗ bigSep Finset.univ fun i : Fin n => Φ i.castSucc) := by
  rw [Fin.univ_castSuccEmb, Finset.cons_eq_insert, bigSep_insert (by simp [Fin.castSucc_ne_last]), bigSep_map]; rfl

omit [FloatOps F] in
theorem fam {J : Type} [Fintype J] {Φ Ψ : J → sProp 𝕄} (h : ∀ j, Φ j ⊢ Ψ j) : (bigSep Finset.univ Φ : sProp 𝕄) ⊢ bigSep Finset.univ Ψ := bigSep_mono fun j _ => h j

section Families
variable (I : Inp F) (K : GSem nD τ sig → ℕ) (κ : Str) (c : Dev nD)

/-- An array's pieces: the device's own, and those that are to arrive. -/
theorem give (f : (o : Dev nD) → Buf (Elt F) ((sl κ o).view.loc (c : Thread nD τ))) :
    (bigSep Finset.univ fun o => (sl κ o).view.loc (c : Thread nD τ) ↦[(sl κ o).view.set]{fullShare} f o : sProp 𝕄)
      ⊢ iprop(pieceAny κ c c ∗ bigSep Finset.univ fun h : Fin 15 => pieceAny κ c (org κ c h.succ)) := by
  have h1 : (bigSep Finset.univ fun o => (sl κ o).view.loc (c : Thread nD τ) ↦[(sl κ o).view.set]{fullShare} f o : sProp 𝕄) ⊢ bigSep Finset.univ fun o => pieceAny κ c o :=
    fam fun o => by unfold pieceAny; iintro H; iexists f o; iexact H
  refine h1.trans (Entails.of_eq ?_)
  rw [bigSep_univ_equiv (orgE κ c) (fun o => pieceAny (F := F) κ c o), fin_succ (fun r => pieceAny (F := F) κ c ((orgE κ c) r))]
  rw [show (orgE κ c) 0 = c from org_zero κ c]
  rfl

/-- What a neighbour is handed. -/
theorem pay_make (d : Dev nD) (hd : fwd κ d = c) :
    iprop((bigSep Finset.univ fun h : Fin 15 => pieceAny κ c (org κ c h.succ)) ∗ (bigSep Finset.univ fun h => reached ER (cellR c κ h) 0)) ⊢ (barPay κ d : sProp 𝕄) := by
  subst hd
  unfold barPay
  rw [bigSep_sep']
  simp only [org_fwd]
  exact .refl

/-- The neighbour's places make the copies ready. -/
theorem send_ready : iprop(barPay κ c ∗ bigSep Finset.univ fun h => SendTok (F := F) c κ h) ⊢ (SendSt κ c 0 : sProp 𝕄) := by
  unfold SendSt barPay
  rw [prog_zero, ← bigSep_sep']
  refine fam fun h => ?_
  unfold SendTok ToSend
  iintro ⟨⟨Hp, #Hr⟩, Ht, Ht', #Hr', Ha⟩
  isplitl [Ht]; · iexact Ht
  isplitl [Ht']; · iexact Ht'
  isplitr; · iexact Hr'
  isplitr; · iexact Hr
  isplitl [Hp]; · iexact Hp
  iexact Ha
theorem recv_ready : (bigSep Finset.univ fun h => RecvTodo (F := F) κ c h) ⊢ (RecvSt κ c 0 : sProp 𝕄) := by
  unfold RecvSt; rw [prog_zero]
theorem cast_ready (f : (o : Dev nD) → Buf (Elt F) ((osl κ o).view.loc (c : Thread nD τ))) :
    (bigSep Finset.univ fun o => (osl κ o).view.loc (c : Thread nD τ) ↦[(osl κ o).view.set]{fullShare} f o : sProp 𝕄) ⊢ CastSt I κ c 0 := by
  unfold CastSt
  rw [prog_zero, bigSep_univ_equiv (orgE κ c)]
  refine fam fun h => ?_
  unfold CastTodo outAny
  iintro H; iexists f (org κ c h); iexact H

/-- A stream at its end: every piece whole again at the gathered contents, every result's piece filled, every semaphore at zero. -/
theorem stream_end : iprop(DoneSt I κ c 15 ∗ RecvSt κ c 15 ∗ Idle I κ c 16 ∗ pieceAt I κ fullShare.left c (org κ c 15))
    ⊢ (iprop(Zeros c κ ∗ stageAny κ c ∗ (bigSep Finset.univ fun o => pieceAt I κ fullShare c o) ∗ (bigSep Finset.univ fun o => outAt I κ c o)) : sProp 𝕄) := by
  unfold DoneSt RecvSt Idle CastSt
  rw [show (prog 15 (SentDone I κ c) (Sent κ c) : sProp 𝕄) = _ from prog_full _ _, show (prog 15 (RecvDone (F := F) κ c) (RecvTodo κ c) : sProp 𝕄) = _ from prog_full _ _,
    show (prog 16 (CastDone I κ c) (CastTodo κ c) : sProp 𝕄) = _ from prog_full _ _]
  unfold SentDone RecvDone CastDone Zeros
  rw [bigSep_sep', bigSep_sep', bigSep_univ_equiv (orgE κ c) (fun o => pieceAt I κ fullShare c o), bigSep_univ_equiv (orgE κ c) (fun o => outAt I κ c o)]
  have hj : iprop((bigSep Finset.univ fun r : Fin 16 => pieceAt I κ fullShare.left c (org κ c r)) ∗ (bigSep Finset.univ fun r : Fin 16 => pieceAt I κ fullShare.right c (org κ c r)))
      ⊢ (bigSep Finset.univ fun r : Fin 16 => pieceAt I κ fullShare c ((orgE κ c) r) : sProp 𝕄) := by
    rw [← bigSep_sep']; exact bigSep_mono fun r _ => (halves I κ c (org κ c r)).2
  rw [fin_last (fun r : Fin 16 => pieceAt I κ fullShare.left c (org κ c r))] at hj
  iintro ⟨⟨Hs, Hl⟩, Hr, ⟨⟨Ho, Hrt⟩, Hst, Hloc⟩, HL⟩
  isplitl [Hs Hr Hloc]
  · isplitl [Hs]; · iexact Hs
    isplitl [Hr]; · iexact Hr
    iexact Hloc
  isplitl [Hst]; · iexact Hst
  isplitl [Hl Hrt HL]
  · iapply hj
    isplitl [Hl HL]
    · isplitl [HL]; · iexact HL
      iexact Hl
    iexact Hrt
  iexact Ho

end Families

/-- All streams at their end. -/
theorem final_end (I : Inp F) (c : Dev nD) : Final I c ⊢ (iprop(Filled I c ∗ four (Zeros c) ∗ ow c 0) : sProp 𝕄) := by
  unfold Final Filled lefts four
  rw [show (gXB I c) = outG I 0 c from rfl, show (gWB I) = outG I 2 c from rfl, split_ox c fullShare (outG I 0 c), split_ow c fullShare (outG I 2 c)]
  iintro ⟨⟨D0, D1, D2, D3⟩, ⟨R0, R1, R2, R3⟩, ⟨I0, I1, I2, I3⟩, ⟨L0, L1, L2, L3⟩, HO⟩
  ihave H0 := (stream_end I 0 c) $$ [D0 R0 I0 L0]
  · isplitl [D0]; · iexact D0
    isplitl [R0]; · iexact R0
    isplitl [I0]; · iexact I0
    iexact L0
  ihave H1 := (stream_end I 1 c) $$ [D1 R1 I1 L1]
  · isplitl [D1]; · iexact D1
    isplitl [R1]; · iexact R1
    isplitl [I1]; · iexact I1
    iexact L1
  ihave H2 := (stream_end I 2 c) $$ [D2 R2 I2 L2]
  · isplitl [D2]; · iexact D2
    isplitl [R2]; · iexact R2
    isplitl [I2]; · iexact I2
    iexact L2
  ihave H3 := (stream_end I 3 c) $$ [D3 R3 I3 L3]
  · isplitl [D3]; · iexact D3
    isplitl [R3]; · iexact R3
    isplitl [I3]; · iexact I3
    iexact L3
  icases H0 with ⟨Z0, S0, P0, X0⟩
  icases H1 with ⟨Z1, S1, P1, X1⟩
  icases H2 with ⟨Z2, S2, P2, X2⟩
  icases H3 with ⟨Z3, S3, P3, X3⟩
  isplitl [S0 P0 X0 S1 P1 X1 S2 P2 X2 S3 P3 X3]
  · isplitl [P0 P1]
    · iexists gX I
      iapply (Entails.of_eq (split_gx c fullShare (gX I)).symm)
      unfold pieceAt
      isplitl [P0]; · iexact P0
      iexact P1
    isplitl [P2 P3]
    · iexists gW I
      iapply (Entails.of_eq (split_gw c fullShare (gW I)).symm)
      unfold pieceAt
      isplitl [P2]; · iexact P2
      iexact P3
    isplitl [S0 S1 S2 S3]
    · isplitl [S0]; · iexact S0
      isplitl [S1]; · iexact S1
      isplitl [S2]; · iexact S2
      iexact S3
    unfold outAt
    isplitl [X0 X1]
    · isplitl [X0]; · iexact X0
      iexact X1
    isplitl [X2]; · iexact X2
    iexact X3
  isplitl [Z0 Z1 Z2 Z3]
  · isplitl [Z0]; · iexact Z0
    isplitl [Z1]; · iexact Z1
    isplitl [Z2]; · iexact Z2
    iexact Z3
  iexact HO

/-! ## The entry -/

/-- A load of all of a buffer owned through a memref. -/
theorem load_all (c : Dev nD) {α : Type} {n m : ℕ} {e : EltTy} (a : Memref sig .tc .vmem ⟨2, ![n, m]⟩ e) {inb : ∀ i, (![0, 0] : Fin 2 → ℕ) i + (⟨2, ![n, m]⟩ : Shape).size i ≤ (⟨2, ![n, m]⟩ : Shape).size i}
    {hl : a.view.LoadsAt (Rect.unit (s := ⟨2, ![n, m]⟩) ![0, 0] (⟨2, ![n, m]⟩ : Shape).size inb).toLoadRect} (X : Vec F ⟨2, ![n, m]⟩ e)
    (kk : Vec F ⟨2, ![n, m]⟩ e → PG F α) (Q : α → sProp 𝕄) :
    (owns (c : Thread nD τ) a fullShare X : sProp 𝕄) ⊢ iprop((owns (c : Thread nD τ) a fullShare X -∗ WP c (kk X) Q)
      -∗ WP c (Prog.lift (.load a (Rect.unit (s := ⟨2, ![n, m]⟩) ![0, 0] (⟨2, ![n, m]⟩ : Shape).size inb).toLoadRect hl) >>= kk) Q) := by
  simp only [Prog.lift, Prog.bind_op, Prog.bind_ret]
  unfold owns
  iintro ⟨%f, %hf, H⟩ Hk
  iapply (wp_load_rect 𝒱₀ (c : Thread nD τ) none Set.univ (m := a) (r := Rect.unit (s := ⟨2, ![n, m]⟩) ![0, 0] (⟨2, ![n, m]⟩ : Shape).size inb) (View.set_slice_subset _ _)) $$ H
  iintro H
  have e : (a.access (Rect.unit (s := ⟨2, ![n, m]⟩) ![0, 0] (⟨2, ![n, m]⟩ : Shape).size inb)).read (Elt F) f = X := by
    rw [← hf]; funext j
    rw [View.read_apply, View.read_apply]
    refine congrArg (fun k => cast _ (f k)) (congrArg a.view.emb (funext fun i => Fin.ext ?_))
    show (![0, 0] : Fin 2 → ℕ) i + 1 * (j i).val = (j i).val
    match i with
    | 0 => show 0 + 1 * _ = _; omega
    | 1 => show 0 + 1 * _ = _; omega
  rw [e]
  iapply Hk
  iexists f
  isplitr; · ipureintro; exact hf
  iexact H

section Entry
variable (I : Inp F) (K : GSem nD τ sig → ℕ) (c : Dev nD)
variable (a0 : Memref sig .tc .vmem S4096x256 .i8) (a1 : Memref sig .tc .vmem S256x8192 .i8) (a2 : Memref sig .tc .vmem S1x1 .f32)

/-- What the call reads. -/
def Ins : sProp 𝕄 :=
  iprop(owns (c : Thread nD τ) a0 fullShare (I.x c) ∗ owns (c : Thread nD τ) a1 fullShare (I.w c) ∗ owns (c : Thread nD τ) a2 fullShare (fun _ => I.s c))

/-- The barrier: the neighbours handed the places their pieces go to, theirs had in return. -/
theorem bar_run {α : Type} (kk : PUnit → PG F α) (Q : α → sProp 𝕄) :
    iprop(records I K ∗ Bars c ∗ barPay 0 (prv c) ∗ barPay 2 (prv c) ∗ barPay 1 (nxt c) ∗ barPay 3 (nxt c) ∗ ow c (owe0 c))
      ⊢ iprop((iprop(four (fun κ => barPay κ c) ∗ semVal (cellB c) 0 ∗ ow c (owe c 0)) -∗ WP c (kk ⟨⟩) Q)
        -∗ WP c (semSignalWord (⟨k0_dev1 c, k0_dev1_lt c⟩ : Dev nD) (sig.barrier 0 rfl) 1#32 >>= fun _ =>
          semSignalWord (⟨k0_dev2 c, k0_dev2_lt c⟩ : Dev nD) (sig.barrier 0 rfl) 1#32 >>= fun _ => semWaitWord (sig.barrier 0 rfl) 2#32 >>= kk) Q) := by
  rw [d1, d2]
  simp only [semSignalWord, semWaitWord, Prog.lift, Prog.bind_op, Prog.bind_ret]
  unfold Bars ow four
  iintro ⟨#Hrec, ⟨Tp, Tn, Hc, Hat⟩, P0, P2, P1, P3, ⟨%W, HO⟩⟩ Hk
  iapply (Rounds.wp_signal 𝒱₀ ER (Rd I) (c : Thread nD τ) none (dst := (prv c : Thread nD τ)) (sem := barS) (r := 0) (d := false) (κ := K (cellB (prv c)))
      (by rw [duties_bar]; exact Finset.mem_univ _) (amount_bar I (prv c) false) () (owe c 0 + tallyAt (cellB (nxt c)) () 1) rfl) $$ [HO Tp P0 P2]
  · isplitr; · iapply (rec_bar I K (prv c)); iexact Hrec
    isplitl [HO]; · iexact HO
    isplitl [Tp]; · iexact Tp
    isplitl [P0 P2]
    · rw [payload_bar_false]
      isplitl [P0]; · iexact P0
      iexact P2
    iapply (rec_open I K (prv c)); iexact Hrec
  iintro HO
  iapply (Rounds.wp_signal 𝒱₀ ER (Rd I) (c : Thread nD τ) none (dst := (nxt c : Thread nD τ)) (sem := barS) (r := 0) (d := true) (κ := K (cellB (nxt c)))
      (by rw [duties_bar]; exact Finset.mem_univ _) (amount_bar I (nxt c) true) () (owe c 0) rfl) $$ [HO Tn P1 P3]
  · isplitr; · iapply (rec_bar I K (nxt c)); iexact Hrec
    isplitl [HO]; · iexact HO
    isplitl [Tn]; · iexact Tn
    isplitl [P1 P3]
    · rw [payload_bar_true]
      isplitl [P1]; · iexact P1
      iexact P3
    iapply (rec_open I K (nxt c)); iexact Hrec
  iintro HO
  iapply (Rounds.wp_wait_rest_token 𝒱₀ ER (Rd I) (c : Thread nD τ) none (κ := K (cellB c))
      (wpE_semWait_eq 𝒱₀ (c : Thread nD τ) none Set.univ) (Set.mem_univ _) () (O := owe c 0) (W := W) (R := 0) (m := 0) (T := ∅)
      ((Nat.zero_add 2).trans (expect_bar I c).symm)) $$ [Hc HO Hat]
  · isplitr; · iapply (rec_bar I K c); iexact Hrec
    isplitl [Hc]; · iexact Hc
    isplitl [HO]; · iexact HO
    isplitr; · iapply (may I K c _ 0 (by rw [lv_bar]; decide)); iexact Hrec
    iexact Hat
  iintro ⟨HO, Hat, -, Hpay⟩
  ihave Hp := (Entails.of_eq (rest_bar I c)) $$ Hpay
  icases Hp with ⟨⟨P0, P2⟩, P1, P3⟩
  imod (close I K (cellB c)) $$ [Hat] with Hz
  · isplitr; · iapply (rec_bar I K c); iexact Hrec
    iexact Hat
  iapply Hk
  isplitl [P0 P1 P2 P3]
  · isplitl [P0]; · iexact P0
    isplitl [P1]; · iexact P1
    isplitl [P2]; · iexact P2
    iexact P3
  isplitl [Hz]; · iexact Hz
  iexists _
  iexact HO

end Entry

end Cert.KernelIdeal.Gath
-- ==== Proof.Call.lean ====
/-
  The all-gather's call as a whole: from the buffers and cells of one device to the two results filled.
-/
module

public import proofs.«01_k».proof.Proof.Entry

@[expose] public section

set_option maxRecDepth 8000

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Call
variable (I : Inp F) (K : GSem nD τ sig → ℕ) (c : Dev nD)
variable (a0 : Memref sig .tc .vmem S4096x256 .i8) (a1 : Memref sig .tc .vmem S256x8192 .i8) (a2 : Memref sig .tc .vmem S1x1 .f32)

theorem own_left_right (κ : Str) : (pieceAt I κ fullShare c (org κ c 0) : sProp 𝕄)
    ⊢ iprop(pieceAt I κ fullShare.left c (org κ c 0) ∗ pieceAt I κ fullShare.right c (org κ c 0)) := (halves I κ c (org κ c 0)).1

/-- The own blocks put in place: the scale read, the blocks read and stored. -/
theorem own_run {α : Type} (kk : F .f32 → PG F α) (Q : α → sProp 𝕄) :
    iprop(four (fun κ => pieceAny κ c c) ∗ Ins I c a0 a1 a2)
      ⊢ iprop((iprop(lefts I c 0 ∗ rights I c 0 ∗ Ins I c a0 a1 a2) -∗ WP c (kk (I.s c)) Q)
        -∗ WP c (Prog.lift (.load a2 (Rect.unit (s := S1x1) ![0, 0] S1x1.size inb_S1x1_S1x1_0_0).toLoadRect (View.loadsAt_vmem h_S1x1)) >>= fun v13 : Vec F S1x1 .f32 =>
          Prog.lift (.load a0 (Rect.unit (s := S4096x256) ![0, 0] S4096x256.size inb_S4096x256_S4096x256_0_0).toLoadRect (View.loadsAt_vmem h_S4096x256)) >>= fun v15 : Vec F S4096x256 .i8 =>
          Prog.lift (.load G0 (rX c).toLoadRect (View.loadsAt_vmem h_S4096x256)) >>= fun _ : Vec F S4096x256 .i8 =>
          Prog.lift (.store G0 (rX c) (k0_pay2 v15) Finset.univ (View.stores_vmem h_S4096x256 ((Memref.isWhole_whole cc0_scratch0).storeExact_slice rfl _ (k0_off1_packedi8 c)) (fun _ => rfl)) (.inl rfl)) >>= fun _ =>
          Prog.lift (.load a1 (Rect.unit (s := S256x8192) ![0, 0] S256x8192.size inb_S256x8192_S256x8192_0_0).toLoadRect (View.loadsAt_vmem h_S256x8192)) >>= fun v22 : Vec F S256x8192 .i8 =>
          Prog.lift (.load G1 (rW c).toLoadRect (View.loadsAt_vmem h_S256x8192)) >>= fun _ : Vec F S256x8192 .i8 =>
          Prog.lift (.store G1 (rW c) (k0_pay3 v22) Finset.univ (View.stores_vmem h_S256x8192 ((Memref.isWhole_whole cc0_scratch1).storeExact_slice rfl _ (k0_off2_packedi8 c)) (fun _ => rfl)) (.inl rfl)) >>= fun _ =>
          kk (k0_pay1 v13)) Q) := by
  unfold Ins lefts rights four
  iintro ⟨⟨P0, P1, P2, P3⟩, A0, A1, A2⟩ Hk
  ihave HX := (own_x (F := F) c) $$ [P0 P1]
  · isplitl [P0]; · iexact P0
    iexact P1
  ihave HW := (own_w (F := F) c) $$ [P2 P3]
  · isplitl [P2]; · iexact P2
    iexact P3
  icases HX with ⟨%fx, HX⟩
  icases HW with ⟨%fw, HW⟩
  iapply (load_all c a2 (fun _ => I.s c)) $$ A2
  iintro A2
  iapply (load_all c a0 (I.x c)) $$ A0
  iintro A0
  simp only [Prog.lift, Prog.bind_op, Prog.bind_ret]
  iapply (wp_load_rect 𝒱₀ (c : Thread nD τ) none Set.univ (m := G0) (r := rX c) (Finset.Subset.refl _)) $$ HX
  iintro HX
  iapply (wp_store 𝒱₀ (c : Thread nD τ) none Set.univ (m := G0) (r := rX c) (Mk := Finset.univ) (View.setOn_subset_set _ _)) $$ HX
  iintro HX
  iapply (load_all c a1 (I.w c)) $$ A1
  iintro A1
  simp only [Prog.lift, Prog.bind_op, Prog.bind_ret]
  iapply (wp_load_rect 𝒱₀ (c : Thread nD τ) none Set.univ (m := G1) (r := rW c) (Finset.Subset.refl _)) $$ HW
  iintro HW
  iapply (wp_store 𝒱₀ (c : Thread nD τ) none Set.univ (m := G1) (r := rW c) (Mk := Finset.univ) (View.setOn_subset_set _ _)) $$ HW
  iintro HW
  ihave HX := (stored_x I c fx) $$ HX
  ihave HW := (stored_w I c fw) $$ HW
  icases HX with ⟨P0, P1⟩
  icases HW with ⟨P2, P3⟩
  ihave P0 := (own_left_right I c 0) $$ P0
  ihave P1 := (own_left_right I c 1) $$ P1
  ihave P2 := (own_left_right I c 2) $$ P2
  ihave P3 := (own_left_right I c 3) $$ P3
  icases P0 with ⟨L0, R0⟩
  icases P1 with ⟨L1, R1⟩
  icases P2 with ⟨L2, R2⟩
  icases P3 with ⟨L3, R3⟩
  iapply Hk
  isplitl [L0 L1 L2 L3]
  · isplitl [L0]; · iexact L0
    isplitl [L1]; · iexact L1
    isplitl [L2]; · iexact L2
    iexact L3
  isplitl [R0 R1 R2 R3]
  · isplitl [R0]; · iexact R0
    isplitl [R1]; · iexact R1
    isplitl [R2]; · iexact R2
    iexact R3
  isplitl [A0]; · iexact A0
  isplitl [A1]; · iexact A1
  iexact A2

/-- A stream's state before its first hop, from its open cells, its result's places, its stage and the neighbour's places. -/
theorem stream_start (κ : Str) (f : (o : Dev nD) → Buf (Elt F) ((osl κ o).view.loc (c : Thread nD τ))) :
    iprop((bigSep Finset.univ fun h => SendTok (F := F) c κ h) ∗ (bigSep Finset.univ fun h => RecvTodo (F := F) κ c h) ∗ semVal (cellL κ c) 0 ∗ barPay κ c ∗ stageAny κ c
      ∗ (bigSep Finset.univ fun o => (osl κ o).view.loc (c : Thread nD τ) ↦[(osl κ o).view.set]{fullShare} f o))
    ⊢ (iprop(SendSt κ c 0 ∗ RecvSt κ c 0 ∗ Idle I κ c 0) : sProp 𝕄) := by
  iintro ⟨T, R, Z, B, S, O⟩
  isplitl [T B]
  · iapply (send_ready (F := F) κ c)
    isplitl [B]; · iexact B
    iexact T
  isplitl [R]
  · iapply (recv_ready (F := F) κ c); iexact R
  unfold Idle
  isplitl [O]
  · iapply (cast_ready I κ c f); iexact O
  isplitl [S]; · iexact S
  iexact Z

/-- The call, run. -/
theorem call_run (Q : PUnit → sProp 𝕄) :
    iprop(Ready I K c ∗ Bufs c ∗ Ins I c a0 a1 a2 ∗ ow c (owe0 c))
      ⊢ iprop((iprop(Filled I c ∗ Ins I c a0 a1 a2 ∗ four (Zeros c) ∗ semVal (cellB c) 0 ∗ ow c 0) -∗ Q ⟨⟩)
        -∗ WP c (entry a0 a1 a2 G0 (Memref.isWhole_whole _) G1 (Memref.isWhole_whole _) c >>= fun s => restC c s) Q) := by
  unfold Ready Bufs Cells four
  iintro ⟨⟨#Hrec, HB, ⟨T0, #E0, R0, Z0⟩, ⟨T1, #E1, R1, Z1⟩, ⟨T2, #E2, R2, Z2⟩, ⟨T3, #E3, R3, Z3⟩⟩, ⟨⟨%f0, HX⟩, ⟨%f1, HW⟩, ⟨S0, S1, S2, S3⟩, ⟨%f2, HOX⟩, ⟨%f3, HOW⟩⟩, HI, HO⟩ Hk
  ihave HX := (Entails.of_eq (split_gx c fullShare f0)) $$ HX
  ihave HW := (Entails.of_eq (split_gw c fullShare f1)) $$ HW
  ihave HOX := (Entails.of_eq (split_ox c fullShare f2)) $$ HOX
  ihave HOW := (Entails.of_eq (split_ow c fullShare f3)) $$ HOW
  icases HX with ⟨X0, X1⟩
  icases HW with ⟨X2, X3⟩
  icases HOX with ⟨Y0, Y1⟩
  icases HOW with ⟨Y2, Y3⟩
  ihave X0 := (give (F := F) 0 c (fun _ => f0)) $$ X0
  ihave X1 := (give (F := F) 1 c (fun _ => f0)) $$ X1
  ihave X2 := (give (F := F) 2 c (fun _ => f1)) $$ X2
  ihave X3 := (give (F := F) 3 c (fun _ => f1)) $$ X3
  icases X0 with ⟨X0, G0⟩
  icases X1 with ⟨X1, G1⟩
  icases X2 with ⟨X2, G2⟩
  icases X3 with ⟨X3, G3⟩
  unfold entry
  simp only [Prog.bind_assoc, Prog.pure_eq_ret, Prog.bind_ret]
  iapply (bar_run I K c _ Q) $$ [HB G0 G1 G2 G3 HO]
  · isplitr; · iexact Hrec
    isplitl [HB]; · iexact HB
    isplitl [G0]
    · iapply (pay_make (F := F) 0 c (prv c) (nxt_prv c))
      isplitl [G0]; · iexact G0
      iexact E0
    isplitl [G2]
    · iapply (pay_make (F := F) 2 c (prv c) (nxt_prv c))
      isplitl [G2]; · iexact G2
      iexact E2
    isplitl [G1]
    · iapply (pay_make (F := F) 1 c (nxt c) (prv_nxt c))
      isplitl [G1]; · iexact G1
      iexact E1
    isplitl [G3]
    · iapply (pay_make (F := F) 3 c (nxt c) (prv_nxt c))
      isplitl [G3]; · iexact G3
      iexact E3
    iexact HO
  unfold four
  iintro ⟨⟨B0, B1, B2, B3⟩, Hz, HO⟩
  iapply (own_run I c a0 a1 a2 (fun s => restC c s) Q) $$ [X0 X1 X2 X3 HI]
  · unfold four
    isplitl [X0 X1 X2 X3]
    · isplitl [X0]; · iexact X0
      isplitl [X1]; · iexact X1
      isplitl [X2]; · iexact X2
      iexact X3
    iexact HI
  iintro ⟨HL, HR, HI⟩
  ihave U0 := (stream_start I c 0 (fun _ => f2)) $$ [T0 R0 Z0 B0 S0 Y0]
  · isplitl [T0]; · iexact T0
    isplitl [R0]; · iexact R0
    isplitl [Z0]; · iexact Z0
    isplitl [B0]; · iexact B0
    isplitl [S0]; · iexact S0
    iexact Y0
  ihave U1 := (stream_start I c 1 (fun _ => f2)) $$ [T1 R1 Z1 B1 S1 Y1]
  · isplitl [T1]; · iexact T1
    isplitl [R1]; · iexact R1
    isplitl [Z1]; · iexact Z1
    isplitl [B1]; · iexact B1
    isplitl [S1]; · iexact S1
    iexact Y1
  ihave U2 := (stream_start I c 2 (fun _ => f3)) $$ [T2 R2 Z2 B2 S2 Y2]
  · isplitl [T2]; · iexact T2
    isplitl [R2]; · iexact R2
    isplitl [Z2]; · iexact Z2
    isplitl [B2]; · iexact B2
    isplitl [S2]; · iexact S2
    iexact Y2
  ihave U3 := (stream_start I c 3 (fun _ => f3)) $$ [T3 R3 Z3 B3 S3 Y3]
  · isplitl [T3]; · iexact T3
    isplitl [R3]; · iexact R3
    isplitl [Z3]; · iexact Z3
    isplitl [B3]; · iexact B3
    isplitl [S3]; · iexact S3
    iexact Y3
  icases U0 with ⟨T0, R0, Z0⟩
  icases U1 with ⟨T1, R1, Z1⟩
  icases U2 with ⟨T2, R2, Z2⟩
  icases U3 with ⟨T3, R3, Z3⟩
  iapply (rest_run I K c Q) $$ [T0 T1 T2 T3 R0 R1 R2 R3 Z0 Z1 Z2 Z3 HL HR HO]
  · unfold Start four
    isplitr; · iexact Hrec
    isplitl [T0 T1 T2 T3]
    · isplitl [T0]; · iexact T0
      isplitl [T1]; · iexact T1
      isplitl [T2]; · iexact T2
      iexact T3
    isplitl [R0 R1 R2 R3]
    · isplitl [R0]; · iexact R0
      isplitl [R1]; · iexact R1
      isplitl [R2]; · iexact R2
      iexact R3
    isplitl [Z0 Z1 Z2 Z3]
    · isplitl [Z0]; · iexact Z0
      isplitl [Z1]; · iexact Z1
      isplitl [Z2]; · iexact Z2
      iexact Z3
    isplitl [HL]; · iexact HL
    isplitl [HR]; · iexact HR
    iexact HO
  iintro HF
  ihave HF := (final_end I c) $$ HF
  icases HF with ⟨HF, HZ, HO⟩
  iapply Hk
  isplitl [HF]; · iexact HF
  isplitl [HI]; · iexact HI
  isplitl [HZ]
  · unfold four; iexact HZ
  isplitl [Hz]; · iexact Hz
  iexact HO

/-- A program that asks which device it runs on. -/
theorem dev_run {α : Type} (kk : Dev nD → PG F α) (Q : α → sProp 𝕄) : WP c (kk c) Q ⊢ WP c (Prog.lift .deviceId >>= kk) Q := by
  simp only [Prog.lift, Prog.bind_op, Prog.bind_ret, WP, wp_deviceId]
  exact .refl

set_option maxRecDepth 65536 in
/-- The printed body: the device asked for, the entry, the rest. -/
theorem body_at {h0 : a0.IsWhole} {h1 : a1.IsWhole} {h2 : a2.IsWhole} :
    cc0__ag_body (F := F) a0 h0 a1 h1 a2 h2 (Memref.whole main_v3_0) (Memref.isWhole_whole _) (Memref.whole main_v3_1) (Memref.isWhole_whole _) G0 (Memref.isWhole_whole _)
          G1 (Memref.isWhole_whole _) cc0_scratch2 cc0_scratch3 cc0_scratch4 cc0_scratch5 cc0_scratch6 cc0_scratch7 cc0_scratch8 cc0_scratch9
          (Memref.whole cc0_scratch10) (Memref.isWhole_whole _) (Memref.whole cc0_scratch11) (Memref.isWhole_whole _) (Memref.whole cc0_scratch12) (Memref.isWhole_whole _)
          (Memref.whole cc0_scratch13) (Memref.isWhole_whole _) cc0_scratch14
      = Prog.lift .deviceId >>= fun d0 => entry a0 a1 a2 G0 (Memref.isWhole_whole _) G1 (Memref.isWhole_whole _) d0 >>= fun s => restC d0 s := by
  rw [body_eq]
  rfl

/-- The printed body, run. -/
theorem body_run {h0 : a0.IsWhole} {h1 : a1.IsWhole} {h2 : a2.IsWhole} (Q : PUnit → sProp 𝕄) :
    iprop(Ready I K c ∗ Bufs c ∗ Ins I c a0 a1 a2 ∗ ow c (owe0 c))
      ⊢ iprop((iprop(Filled I c ∗ Ins I c a0 a1 a2 ∗ four (Zeros c) ∗ semVal (cellB c) 0 ∗ ow c 0) -∗ Q ⟨⟩)
        -∗ WP c (cc0__ag_body (F := F) a0 h0 a1 h1 a2 h2 (Memref.whole main_v3_0) (Memref.isWhole_whole _) (Memref.whole main_v3_1) (Memref.isWhole_whole _) G0 (Memref.isWhole_whole _)
          G1 (Memref.isWhole_whole _) cc0_scratch2 cc0_scratch3 cc0_scratch4 cc0_scratch5 cc0_scratch6 cc0_scratch7 cc0_scratch8 cc0_scratch9
          (Memref.whole cc0_scratch10) (Memref.isWhole_whole _) (Memref.whole cc0_scratch11) (Memref.isWhole_whole _) (Memref.whole cc0_scratch12) (Memref.isWhole_whole _)
          (Memref.whole cc0_scratch13) (Memref.isWhole_whole _) cc0_scratch14) Q) := by
  rw [body_at]
  exact (call_run I K c a0 a1 a2 Q).trans (wand_mono_right (dev_run c (fun d0 => entry a0 a1 a2 G0 (Memref.isWhole_whole _) G1 (Memref.isWhole_whole _) d0 >>= fun s => restC d0 s) Q))

end Call

end Cert.KernelIdeal.Gath
-- ==== Proof.Data.lean ====
/-
  What the buffers hold between the calls, and the record of what each call starts from, keeps and leaves.
-/
module

public import proofs.«01_k».proof.Proof.Call
public import proofs.«01_k».proof.Proof.Gen.KernelIdeal.Regions
public import proofs.«01_k».proof.Proof.Gen.KernelIdeal.Points
public import proofs.«01_k».proof.Proof.Gen.KernelIdeal.Launch
public import Idealize.ShloMosaic.Lib.Pipeline.RegionTalk
public import Idealize.ShloMosaic.Lib.Pipeline.RegionArrays
public import Idealize.ShloMosaic.Lib.Pipeline.ValueKit

@[expose] public section

set_option maxRecDepth 16384

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The devices' inputs as the gather takes them. -/
def inp : Inp F where
  x d := m ((d : Thread nD τ).loc main_arg0)
  w d := m ((d : Thread nD τ).loc main_arg1)
  s d := (V1 m d main_v2 : S1x1.Idx → F .f32) (ix2 (n0 := 1) (n1 := 1) 0 0)

/-- After the gather. -/
def W2 (c : Dev nD) : Valuation τ sig (Elt F) := Function.update (Function.update (V1 m c) main_v3_0 (gXB (inp m) c)) main_v3_1 (gWB (inp m))

theorem W2_of (c : Dev nD) (r : Ref sig .tc) (h : r ∉ ([main_v3_0, main_v3_1] : List (Ref sig .tc))) : W2 m c r = V1 m c r :=
  V2_of m (fun _ r c => if h0 : r = main_v3_0 then h0 ▸ gXB (inp m) c else if h1 : r = main_v3_1 then h1 ▸ gWB (inp m) else V1 m c r) c r h
theorem W2_x (c : Dev nD) : W2 m c main_v3_0 = gXB (inp m) c := by
  unfold W2
  rw [Function.update_of_ne (StableHlo.devRef_ne_of_ne (by decide)), Function.update_self]
theorem W2_w (c : Dev nD) : W2 m c main_v3_1 = gWB (inp m) := by
  unfold W2
  rw [Function.update_self]

/-- What the gather's call starts from, beside the buffers it is handed. -/
def Open (c : Dev nD) : sProp 𝕄 := iprop(∃ K, Ready (inp m) K c)
/-- The buffers that the second call stages its blocks in. -/
def Others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The gather's one point. -/
def dat0 (c : Dev nD) : Dat τ (Elt F) Unit ℕ UU ℕ cfg0 c where
  A := fun
    | 0 => m ((c : Thread nD τ).loc main_arg0)
    | 1 => m ((c : Thread nD τ).loc main_arg1)
    | 2 => V1 m c main_v2
    | ⟨_ + 3, h⟩ => absurd h (Nat.not_lt.2 (Nat.le_add_left _ _))
  after := fun
    | 0 => fun _ => (inp m).x c
    | 1 => fun _ => (inp m).w c
    | 2 => fun _ _ => (inp m).s c
    | ⟨_ + 3, h⟩ => absurd h (Nat.not_lt.2 (Nat.le_add_left _ _))
  Φ t := if t.val = 0 then iprop(Open m c ∗ Bufs c ∗ Others c ∗ ∃ r, prngReg c r)
    else iprop(Filled (inp m) c ∗ four (Zeros c) ∗ semVal (cellB c) 0 ∗ Others c ∗ ∃ r, prngReg c r)
  q _ := fullShare
  owed t := if t.val = 0 then owe0 c else 0

/-- The product's points: no invariant of its own; each leaves its block of the product. -/
def dat1 (c : Dev nD) : Dat τ (Elt F) Unit ℕ UU ℕ cfg1 c where
  A := fun
    | 0 => gXB (inp m) c
    | 1 => gWB (inp m)
    | 2 => V1 m c main_v4
    | ⟨_ + 3, h⟩ => absurd h (Nat.not_lt.2 (Nat.le_add_left _ _))
  after := fun
    | 0 => fun t => ((cfg1.win 0).blk t).view.read (Elt F) (gXB (inp m) c)
    | 1 => fun t => ((cfg1.win 1).blk t).view.read (Elt F) (gWB (inp m))
    | 2 => fun t => k1_pay1 (((cfg1.win 0).blk t).view.read (Elt F) (gXB (inp m) c)) (((cfg1.win 1).blk t).view.read (Elt F) (gWB (inp m)))
    | ⟨_ + 3, h⟩ => absurd h (Nat.not_lt.2 (Nat.le_add_left _ _))
  Φ _ := Pipeline.scopedRest (Ix := Unit) (Name := ℕ) (U := UU) (Lvl := ℕ) (Val := Elt F) spec1 c
  q _ := fullShare
  owed _ := 0

/-- The result. -/
def res (c : Dev nD) : Buf (Elt F) ((c : Thread nD τ).loc main_v4) := (dat1 m c).arrAt 2 cfg1.N

/-- At the end. -/
def W3 (c : Dev nD) : Valuation τ sig (Elt F) := Function.update (W2 m c) main_v4 (res m c)

theorem W3_of (c : Dev nD) (r : Ref sig .tc) (h : r ≠ main_v4) : W3 m c r = W2 m c r := by
  unfold W3
  rw [Function.update_of_ne (StableHlo.devRef_ne_of_ne h)]
theorem W3_res (c : Dev nD) : W3 m c main_v4 = res m c := by
  unfold W3
  rw [Function.update_self]
/-- An argument stays. -/
theorem W3_arg (c : Dev nD) (r : Ref sig .tc) (h : r ∉ ([main_v4, main_v3_0, main_v3_1, main_v1, main_v2] : List (Ref sig .tc))) : W3 m c r = m ((c : Thread nD τ).loc r) := by
  simp only [List.mem_cons, List.not_mem_nil, or_false, not_or] at h
  rw [W3_of m c r h.1, W2_of m c r (by simp [h]), V1_of m c r (by simp [hostOps0_W, h])]

def pdats : (p : Fin 2) → (c : Dev nD) → Dat τ (Elt F) Unit ℕ UU ℕ (cfgs p) c
  | 0 => dat0 m
  | 1 => dat1 m
  | ⟨_ + 2, h⟩ => absurd h (Nat.not_lt.2 (Nat.le_add_left _ _))

end Cert.KernelIdeal.Gath
-- ==== Proof.Region0.lean ====
/-
  The gather's call as a region of @main.
-/
module

public import proofs.«01_k».proof.Proof.Data

@[expose] public section

set_option maxRecDepth 16384

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the windows bring -/

theorem before0_0 (c : Dev nD) (t : Fin cfg0.N) (d) : (dat0 m c).before 0 t d = (inp m).x c := by
  rw [(dat0 m c).before_fetched 0 t (fetch0_0 t) d]
  funext y
  refine congrArg (m ((c : Thread nD τ).loc main_arg0)) ?_
  funext a
  apply Fin.ext
  blk_simp
  show 0 * _ + (y a).val = (y a).val
  rw [Nat.zero_mul, Nat.zero_add]
theorem before0_1 (c : Dev nD) (t : Fin cfg0.N) (d) : (dat0 m c).before 1 t d = (inp m).w c := by
  rw [(dat0 m c).before_fetched 1 t (fetch0_1 t) d]
  funext y
  refine congrArg (m ((c : Thread nD τ).loc main_arg1)) ?_
  funext a
  apply Fin.ext
  blk_simp
  show 0 * _ + (y a).val = (y a).val
  rw [Nat.zero_mul, Nat.zero_add]
theorem before0_2 (c : Dev nD) (t : Fin cfg0.N) (d) : (dat0 m c).before 2 t d = fun _ => (inp m).s c := by
  rw [(dat0 m c).before_fetched 2 t (fetch0_2 t) d]
  funext y
  refine congrArg (V1 m c main_v2) ?_
  funext a
  have e : ∀ b : Fin 2, S1x1.size b = 1 := by decide
  have h : ∀ p q : Fin (S1x1.size a), p = q := by rw [e a]; exact fun p q => Subsingleton.elim p q
  exact h _ _

/-! ## The call's one point -/

theorem owesAt_intro {cfg : Pipeline.Cfg sig Λ₀} {c : Dev nD} (dat : Dat τ (Elt F) Unit ℕ UU ℕ cfg c) (t : Fin (cfg.N + 1)) (O : CellTallies nD τ sig Unit)
    (h0 : dat.owed t = O) (hr : dat.recorded t = Set.univ) : (ow c O : sProp 𝕄) ⊢ (dat.owesAt () t : sProp 𝕄) := by
  unfold Dat.owesAt Pipeline.owesWithin Dat.bound ow; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1)) (O : CellTallies nD τ sig Unit)
    (h0 : dat.owed t = O) : (dat.owesAt () t : sProp 𝕄) ⊢ ow c O := by
  unfold Dat.owesAt Pipeline.owesWithin ow; rw [h0]
  iintro ⟨%W, -, HO⟩; iexists W; iexact HO

theorem owed0_first (c : Dev nD) : (dat0 m c).owed t0_0.castSucc = owe0 c := by
  show (if (t0_0.castSucc : Fin (cfg0.N + 1)).val = 0 then owe0 c else 0) = owe0 c; exact if_pos rfl
theorem owed0_zero (c : Dev nD) : (dat0 m c).owed 0 = owe0 c := by
  show (if ((0 : Fin (cfg0.N + 1)).val = 0) then owe0 c else 0) = owe0 c; exact if_pos rfl
theorem owed0_succ (c : Dev nD) : (dat0 m c).owed t0_0.succ = 0 := by
  show (if (t0_0.succ : Fin (cfg0.N + 1)).val = 0 then owe0 c else 0) = 0; exact if_neg (by simp)
theorem owed0_last (c : Dev nD) : (dat0 m c).owed (Fin.last _) = 0 := by
  show (if (Fin.last cfg0.N).val = 0 then owe0 c else 0) = 0
  rw [Fin.val_last, if_neg (by rw [show cfg0.N = 1 from N_0]; decide)]
def start0 (c : Dev nD) : sProp 𝕄 := iprop(Open m c ∗ Bufs c ∗ Others c ∗ ∃ r, prngReg c r)
def end0 (c : Dev nD) : sProp 𝕄 := iprop(Filled (inp m) c ∗ four (Zeros c) ∗ semVal (cellB c) 0 ∗ Others c ∗ ∃ r, prngReg c r)
theorem Φ0_zero (c : Dev nD) : (dat0 m c).Φ 0 = start0 m c := by
  show (if ((0 : Fin (cfg0.N + 1)).val = 0) then start0 m c else end0 m c) = _; exact if_pos rfl
theorem Φ0_first (c : Dev nD) : (dat0 m c).Φ t0_0.castSucc = start0 m c := by
  show (if (t0_0.castSucc : Fin (cfg0.N + 1)).val = 0 then start0 m c else end0 m c) = _; exact if_pos rfl
theorem Φ0_succ (c : Dev nD) : (dat0 m c).Φ t0_0.succ = end0 m c := by
  show (if (t0_0.succ : Fin (cfg0.N + 1)).val = 0 then start0 m c else end0 m c) = _; exact if_neg (by simp)
theorem Φ0_last (c : Dev nD) : (dat0 m c).Φ (Fin.last _) = end0 m c := by
  show (if (Fin.last cfg0.N).val = 0 then start0 m c else end0 m c) = _
  rw [Fin.val_last, if_neg (by rw [show cfg0.N = 1 from N_0]; decide)]

theorem found0_0 (c : Dev nD) : iprop(∃ d, owns (c : Thread nD τ) (st0_0 t0_0) fullShare ((dat0 m c).before 0 t0_0 d)) ⊢ (owns (c : Thread nD τ) (st0_0 t0_0) fullShare ((inp m).x c) : sProp 𝕄) := by
  iintro ⟨%d, H⟩
  iapply (Entails.of_eq (congrArg (owns (c : Thread nD τ) (st0_0 t0_0) fullShare) (before0_0 m c t0_0 d))) $$ H
theorem found0_1 (c : Dev nD) : iprop(∃ d, owns (c : Thread nD τ) (st0_1 t0_0) fullShare ((dat0 m c).before 1 t0_0 d)) ⊢ (owns (c : Thread nD τ) (st0_1 t0_0) fullShare ((inp m).w c) : sProp 𝕄) := by
  iintro ⟨%d, H⟩
  iapply (Entails.of_eq (congrArg (owns (c : Thread nD τ) (st0_1 t0_0) fullShare) (before0_1 m c t0_0 d))) $$ H
theorem found0_2 (c : Dev nD) : iprop(∃ d, owns (c : Thread nD τ) (st0_2 t0_0) fullShare ((dat0 m c).before 2 t0_0 d)) ⊢ (owns (c : Thread nD τ) (st0_2 t0_0) fullShare (fun _ => (inp m).s c) : sProp 𝕄) := by
  iintro ⟨%d, H⟩
  iapply (Entails.of_eq (congrArg (owns (c : Thread nD τ) (st0_2 t0_0) fullShare) (before0_2 m c t0_0 d))) $$ H

set_option maxRecDepth 65536 in
theorem body0 (c : Dev nD) : BodyObligation (dat0 m c) defs₀ 𝒱₀ () Set.univ := fun t => by
  obtain rfl := fin_N0 t
  rw [bigSep_W0, bigSep_W0, Φ0_first, Φ0_succ]
  show _ ⊢ WP c (bodyAt0 t0_0) _
  iintro ⟨HΦ, HO, F0, F1, F2⟩
  ihave H0 := (found0_0 m c) $$ F0
  ihave H1 := (found0_1 m c) $$ F1
  ihave H2 := (found0_2 m c) $$ F2
  ihave HO' := (owesAt_elim (dat0 m c) _ (owe0 c) (owed0_first m c)) $$ HO
  unfold start0 Open
  icases HΦ with ⟨⟨%K, HR⟩, HB, Hoth, Hp⟩
  iapply (body_run (inp m) K c (st0_0 t0_0) (st0_1 t0_0) (st0_2 t0_0) _) $$ [HR HB H0 H1 H2 HO']
  · isplitl [HR]; · iexact HR
    isplitl [HB]; · iexact HB
    isplitl [H0 H1 H2]
    · unfold Ins
      isplitl [H0]; · iexact H0
      isplitl [H1]; · iexact H1
      iexact H2
    iexact HO'
  iintro ⟨HF, HI, HZ, Hb, HO⟩
  isplitl [HF HZ Hb Hoth Hp]
  · unfold end0
    isplitl [HF]; · iexact HF
    isplitl [HZ]; · iexact HZ
    isplitl [Hb]; · iexact Hb
    isplitl [Hoth]; · iexact Hoth
    iexact Hp
  isplitl [HO]; · iapply (owesAt_intro (dat0 m c) t0_0.succ 0 (owed0_succ m c) rfl); iexact HO
  unfold Ins
  icases HI with ⟨H0, H1, H2⟩
  isplitl [H0]; · iexact H0
  isplitl [H1]; · iexact H1
  iexact H2

end Cert.KernelIdeal.Gath
-- ==== Proof.Open.lean ====
/-
  The gather's call as a region of @main: its cells opened at the start, all semaphores back at zero at the end.
-/
module

public import proofs.«01_k».proof.Proof.Region0

@[expose] public section

set_option maxRecDepth 16384

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The call's own semaphores -/

/-- Per stream: the send and the receive semaphores, and the one for local copies. -/
abbrev OK : Type := Str × (Fin 15 ⊕ (Fin 15 ⊕ Unit))
def osem : OK → SemLoc sig := fun k => match k with
  | (κ, .inl h) => .dma (sendSem κ h)
  | (κ, .inr (.inl h)) => .dma (recvSem κ h)
  | (κ, .inr (.inr _)) => .dma (locSem κ)

theorem ownFacts : Pipeline.OwnSemFacts spec0 osem := by decide +kernel

theorem four_fam (Φ : Str → sProp 𝕄) : four Φ = bigSep Finset.univ Φ :=
  (bigSep_univ_eq_bigSepL [(0 : Fin 4), 1, 2, 3] (by decide) (by decide) Φ).symm

theorem own_eq (c : Dev nD) : (Pipeline.ownSems0 osem c : sProp 𝕄) = four (Zeros c) := by
  unfold Pipeline.ownSems0
  rw [bigSep_univ_prod, four_fam]
  refine bigSep_congr fun κ _ => ?_
  rw [BI.bigSep_univ_sum, BI.bigSep_univ_sum, show (Finset.univ : Finset Unit) = {()} from rfl, BI.bigSep_singleton]
  rfl

/-! ## Opening -/

section Opening
variable (I : Inp F) (K : GSem nD τ sig → ℕ) (κ : Str) (c : Dev nD)

/-- A stream's cells before they are open: what may be sent, the rights to open, the credits to come. -/
def Shut : sProp 𝕄 :=
  iprop((bigSep Finset.univ fun h : Fin 15 => iprop(dutyTok ER (cellS c κ h) 0 false ∗ dutyTok ER (cellR (fwd κ c) κ h) 0 false))
    ∗ (bigSep Finset.univ fun h : Fin 15 => openTok ER (cellS c κ h)) ∗ (bigSep Finset.univ fun h : Fin 15 => openTok ER (cellR c κ h))
    ∗ (bigSep Finset.univ fun h : Fin 15 => cred (tallyAt (cellR c κ h) () (NN κ))))

/-- A family of cells opened. -/
theorem open_all (g : Fin 15 → GSem nD τ sig) (hg : ∀ h, records I K ⊢ cellInv ER (Rd I) (K (g h)) (g h)) :
    iprop(records I K ∗ (bigSep Finset.univ fun h => openTok ER (g h)) ∗ (bigSep Finset.univ fun h => semVal (g h) 0))
      ⊢ (|={Set.univ}=> iprop((bigSep Finset.univ fun h => atPos ER (g h) 0 ∅ 0) ∗ (bigSep Finset.univ fun h => reached ER (g h) 0)) : sProp 𝕄) := by
  rw [← bigSep_sep', ← bigSep_sep']
  refine (bigSep_with_persistent (Ψ := fun h => iprop(|={Set.univ}=> (atPos ER (g h) 0 ∅ 0 ∗ reached ER (g h) 0))) fun h _ => ?_).trans (bigSep_fupd _ _)
  refine BI.Entails.trans ?_ (Rounds.cell_open ER (Rd I) (g := g h) (Set.mem_univ (K (g h))))
  exact sep_mono_left (hg h)

theorem open_stream : iprop(records I K ∗ Shut κ c ∗ Zeros c κ) ⊢ (|={Set.univ}=> Cells c κ : sProp 𝕄) := by
  unfold Shut Zeros Cells
  iintro ⟨#HR, ⟨Ht, Hos, Hor, Hc⟩, Hs, Hr, Hl⟩
  imod (open_all I K (fun h => cellS c κ h) (rec_send I K c κ)) $$ [Hos Hs] with ⟨Has, Hrs⟩
  · isplitr; · iexact HR
    isplitl [Hos] <;> iassumption
  imod (open_all I K (fun h => cellR c κ h) (rec_recv I K c κ)) $$ [Hor Hr] with ⟨Har, #Hrr⟩
  · isplitr; · iexact HR
    isplitl [Hor] <;> iassumption
  imodintro
  unfold SendTok RecvTodo
  simp only [bigSep_sep']
  icases Ht with ⟨Ht1, Ht2⟩
  isplitl [Ht1 Ht2 Hrs Has]
  · isplitl [Ht1]; · iexact Ht1
    isplitl [Ht2]; · iexact Ht2
    isplitl [Hrs]; · iexact Hrs
    iexact Has
  isplitr; · iexact Hrr
  isplitl [Hc Har]
  · isplitl [Hc]; · iexact Hc
    iexact Har
  iexact Hl

end Opening

variable (m : (ℓ : Loc nD τ sig) → Buf (Elt F) ℓ)

/-- What @main keeps for the call from launch. -/
def Kept (c : Dev nD) : sProp 𝕄 := iprop(∃ K, records (inp m) K ∗ Bars c ∗ four (fun κ => Shut κ c))

theorem hopen (c : Dev nD) : iprop(Kept m c ∗ Pipeline.ownSems0 osem c ∗ levAts LL lv) ⊢ (|={Set.univ}=> Open m c : sProp 𝕄) := by
  rw [own_eq]
  unfold Kept Open Ready four
  iintro ⟨⟨%K, #HR, HB, S0, S1, S2, S3⟩, ⟨Z0, Z1, Z2, Z3⟩, -⟩
  imod (open_stream (inp m) K 0 c) $$ [S0 Z0] with C0
  · isplitr; · iexact HR
    isplitl [S0] <;> iassumption
  imod (open_stream (inp m) K 1 c) $$ [S1 Z1] with C1
  · isplitr; · iexact HR
    isplitl [S1] <;> iassumption
  imod (open_stream (inp m) K 2 c) $$ [S2 Z2] with C2
  · isplitr; · iexact HR
    isplitl [S2] <;> iassumption
  imod (open_stream (inp m) K 3 c) $$ [S3 Z3] with C3
  · isplitr; · iexact HR
    isplitl [S3] <;> iassumption
  imodintro
  iexists K
  isplitr; · iexact HR
  isplitl [HB]; · iexact HB
  isplitl [C0]; · iexact C0
  isplitl [C1]; · iexact C1
  isplitl [C2]; · iexact C2
  iexact C3

/-! ## In and out -/

theorem stage0_eq (c : Dev nD) : (stageAny (F := F) 0 c : sProp 𝕄) = iprop(∃ f : Buf (Elt F) ((c : Thread nD τ).loc cc0_scratch10), ((c : Thread nD τ).loc cc0_scratch10) ↦{fullShare} f) := by
  unfold stageAny; rw [show (cl 0).st.view.set = Finset.univ from View.set_whole _]; rfl
theorem stage1_eq (c : Dev nD) : (stageAny (F := F) 1 c : sProp 𝕄) = iprop(∃ f : Buf (Elt F) ((c : Thread nD τ).loc cc0_scratch11), ((c : Thread nD τ).loc cc0_scratch11) ↦{fullShare} f) := by
  unfold stageAny; rw [show (cl 1).st.view.set = Finset.univ from View.set_whole _]; rfl
theorem stage2_eq (c : Dev nD) : (stageAny (F := F) 2 c : sProp 𝕄) = iprop(∃ f : Buf (Elt F) ((c : Thread nD τ).loc cc0_scratch12), ((c : Thread nD τ).loc cc0_scratch12) ↦{fullShare} f) := by
  unfold stageAny; rw [show (cl 2).st.view.set = Finset.univ from View.set_whole _]; rfl
theorem stage3_eq (c : Dev nD) : (stageAny (F := F) 3 c : sProp 𝕄) = iprop(∃ f : Buf (Elt F) ((c : Thread nD τ).loc cc0_scratch13), ((c : Thread nD τ).loc cc0_scratch13) ↦{fullShare} f) := by
  unfold stageAny; rw [show (cl 3).st.view.set = Finset.univ from View.set_whole _]; rfl

/-- The two results' buffers. -/
def HO : Finset (DevRef τ sig) := {Proc.devRef .tc main_v3_0, Proc.devRef .tc main_v3_1}
theorem held_ho (c : Dev nD) (W : Valuation τ sig (Elt F)) : (StableHlo.held (c.tc : Thread nD τ) HO W : sProp 𝕄)
    = iprop((((c : Thread nD τ).loc main_v3_0) ↦{fullShare} W main_v3_0) ∗ (((c : Thread nD τ).loc main_v3_1) ↦{fullShare} W main_v3_1)) := by
  unfold StableHlo.held
  rw [bigSep_eq_bigSepL_of_eq [Proc.devRef .tc main_v3_0, Proc.devRef .tc main_v3_1] (by decide) (by decide)]
  rfl

theorem hin (c : Dev nD) : iprop(Pipeline.scopedRest (Pipeline.pin (pcfgs (F := F)) adm 0).spec c ∗ (∃ r, prngReg c r) ∗ StableHlo.held (c.tc : Thread nD τ) HO (V1 m c) ∗ Open m c)
    ⊢ (pdats m 0 c).Φ 0 := by
  show _ ⊢ (dat0 m c).Φ 0
  rw [Φ0_zero, show (Pipeline.scopedRest (Pipeline.pin (pcfgs (F := F)) adm 0).spec c : sProp 𝕄) = Pipeline.scopedRest spec0 c from rfl, scopedRest0_eq, held_ho]
  unfold start0 Bufs Others
  rw [show (four (fun κ => stageAny (F := F) κ c) : sProp 𝕄) = iprop(stageAny 0 c ∗ stageAny 1 c ∗ stageAny 2 c ∗ stageAny 3 c) from rfl, stage0_eq, stage1_eq, stage2_eq, stage3_eq]
  iintro ⟨⟨S0, S1, S10, S11, S12, S13, T0, T1, T2, T3, T4, T5⟩, Hp, ⟨O0, O1⟩, HK⟩
  isplitl [HK]; · iexact HK
  isplitl [S0 S1 S10 S11 S12 S13 O0 O1]
  · isplitl [S0]; · iexact S0
    isplitl [S1]; · iexact S1
    isplitl [S10 S11 S12 S13]
    · isplitl [S10]; · iexact S10
      isplitl [S11]; · iexact S11
      isplitl [S12]; · iexact S12
      iexact S13
    isplitl [O0]; · iexists _; iexact O0
    iexists _; iexact O1
  isplitl [T0 T1 T2 T3 T4 T5]
  · isplitl [T0]; · iexact T0
    isplitl [T1]; · iexact T1
    isplitl [T2]; · iexact T2
    isplitl [T3]; · iexact T3
    isplitl [T4]; · iexact T4
    iexact T5
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) HO (W2 m c) ∗ Pipeline.ownSems0 osem c ∗ semVal (cellB c) 0) := by
  show (dat0 m c).Φ (Fin.last _) ⊢ _
  rw [Φ0_last, show (Pipeline.scopedRest (Pipeline.pin (pcfgs (F := F)) adm 0).spec c : sProp 𝕄) = Pipeline.scopedRest spec0 c from rfl, scopedRest0_eq, held_ho, own_eq, W2_x, W2_w]
  unfold end0 Filled Others
  rw [show (four (fun κ => stageAny (F := F) κ c) : sProp 𝕄) = iprop(stageAny 0 c ∗ stageAny 1 c ∗ stageAny 2 c ∗ stageAny 3 c) from rfl, stage0_eq, stage1_eq, stage2_eq, stage3_eq]
  iintro ⟨⟨S0, S1, ⟨S10, S11, S12, S13⟩, O0, O1⟩, HZ, Hb, ⟨T0, T1, T2, T3, T4, T5⟩, Hp⟩
  isplitl [S0 S1 S10 S11 S12 S13 T0 T1 T2 T3 T4 T5]
  · isplitl [S0]; · iexact S0
    isplitl [S1]; · iexact S1
    isplitl [S10]; · iexact S10
    isplitl [S11]; · iexact S11
    isplitl [S12]; · iexact S12
    isplitl [S13]; · iexact S13
    isplitl [T0]; · iexact T0
    isplitl [T1]; · iexact T1
    isplitl [T2]; · iexact T2
    isplitl [T3]; · iexact T3
    isplitl [T4]; · iexact T4
    iexact T5
  isplitl [Hp]; · iexact Hp
  isplitl [O0 O1]
  · isplitl [O0]; · iexact O0
    iexact O1
  isplitl [HZ]; · iexact HZ
  iexact Hb

/-! ## The region -/

local notation "ℝ𝕊" => Pipeline.RegionSeg (pcfgs (F := F)) adm (pdats m) () defs₀ 𝒱₀ LL lv

/-- The buffers outside the scope that the call's windows do not bring. -/
def SR : Finset (DevRef τ sig) := Pipeline.ucRefs τ sig \ Pipeline.arrRefs (τ := τ) spec0

theorem HO_sub : HO ⊆ SR := by decide +kernel

omit [FloatOps F] in
theorem owe0_pos (c : Dev nD) (g : GSem nD τ sig) (i : Unit) (h : 0 < owe0 c g i) : i ∈ LL g ∧ 0 < lv g i := by
  unfold owe0 at h
  simp only [Pi.add_apply, Finsupp.add_apply] at h
  rcases Nat.add_pos_iff_pos_or_pos.mp h with h | h
  · rcases Nat.add_pos_iff_pos_or_pos.mp h with h | h
    · obtain ⟨k, κ, -, rfl⟩ := owe_at c 0 g i h
      rw [LL_tc, lv_recv]; exact ⟨Finset.mem_singleton_self _, by omega⟩
    · rw [tallyAt_apply] at h
      split at h
      · next e => rw [e.1, LL_tc, lv_bar]; exact ⟨Finset.mem_singleton_self _, by decide⟩
      · exact absurd h (Nat.lt_irrefl 0)
  · rw [tallyAt_apply] at h
    split at h
    · next e => rw [e.1, LL_tc, lv_bar]; exact ⟨Finset.mem_singleton_self _, by decide⟩
    · exact absurd h (Nat.lt_irrefl 0)

omit [FloatOps F] in
/-- Every semaphore that is no ring semaphore of the receive kind is at level 0. -/
theorem lv_stage (c : Dev nD) (s : DmaSem sig) (h : ¬ isRing s) : lv ((c : Thread nD τ), .dma s) () ≤ 0 := by
  show (if isRing s ∧ ¬ isSend s then 2 + (dHop s).val else 0) ≤ 0
  rw [if_neg (fun e => h e.1)]

theorem cut0 : Pipeline.LevelCutOwed (pcfgs (F := F)) adm (pdats m) () LL lv 0 (fun _ => 0) where
  hι c w s := by rw [LL_tc]; exact Finset.mem_singleton_self _
  hιb c w s := lv_stage c _ ((by decide : ∀ (w : Fin 3) (s : Fin (spec0 w).nbuf), ¬ isRing ((spec0 w).sem s)) w s)
  hD c t g i h := by
    have e : (pdats m 0 c).owed t = if t.val = 0 then owe0 c else 0 := rfl
    rw [e] at h
    split at h
    · exact owe0_pos c g i h
    · exact absurd h (Nat.lt_irrefl 0)

theorem arr0 (c : Dev nD) : ∀ w : Fin 3, (dat0 m c).A w = V1 m c (Proc.devRef .tc (Pipeline.arrRef spec0 w))
  | 0 => (V1_of m c main_arg0 (by decide)).symm
  | 1 => (V1_of m c main_arg1 (by decide)).symm
  | 2 => rfl
  | ⟨_ + 3, h⟩ => absurd h (Nat.not_lt.2 (Nat.le_add_left _ _))
theorem arr0' (c : Dev nD) : ∀ w : Fin 3, (dat0 m c).arrAt w cfg0.N = W2 m c (Proc.devRef .tc (Pipeline.arrRef spec0 w))
  | 0 => ((dat0 m c).arrAt_in 0 rfl _).trans ((arr0 m c 0).trans (W2_of m c main_arg0 (by decide)).symm)
  | 1 => ((dat0 m c).arrAt_in 1 rfl _).trans ((arr0 m c 1).trans (W2_of m c main_arg1 (by decide)).symm)
  | 2 => ((dat0 m c).arrAt_in 2 rfl _).trans ((arr0 m c 2).trans (W2_of m c main_v2 (by decide)).symm)
  | ⟨_ + 3, h⟩ => absurd h (Nat.not_lt.2 (Nat.le_add_left _ _))

theorem share0 (c : Dev nD) : ∀ w : Fin 3, (dat0 m c).share w = fullShare
  | 0 => rfl
  | 1 => rfl
  | 2 => rfl
  | ⟨_ + 3, h⟩ => absurd h (Nat.not_lt.2 (Nat.le_add_left _ _))

theorem rest0 (c : Dev nD) (b : DevRef τ sig) (hb : b ∈ SR \ HO) : W2 m c b = V1 m c b := by
  have h := (Finset.mem_sdiff.mp hb).2
  unfold HO at h
  simp only [Finset.mem_insert, Finset.mem_singleton, not_or] at h
  unfold W2
  rw [Function.update_of_ne h.2, Function.update_of_ne h.1]

set_option backward.isDefEq.respectTransparency.types false in
/-- The gather's call as a region. -/
def reg0 : ℝ𝕊 0 :=
  Pipeline.RegionSeg.ofTalk (pcfgs (F := F)) adm (pdats m) () defs₀ 𝒱₀ LL lv 0 osem ownFacts HO SR HO_sub launch0.toP rfl (fun c => (body0 m c).loose)
    (fun _ => 0) owe0 (fun c => (owed0_zero m c).trans (zero_add _).symm) (owed0_last m) (fun _ => rfl) (share0 m)
    (V1 m) (W2 m) (rest0 m) (Kept m) (fun c => semVal (cellB c) 0) (Open m) (fun c => semVal (cellB c) 0) (hopen m) (hin m) (hout m)
    (fun c => by iintro H; imodintro; iexact H)
    (fun _ => 0) (cut0 m) (fun _ => iprop(emp)) (arr0 m) (arr0' m)

end Cert.KernelIdeal.Gath
-- ==== Proof.Region1.lean ====
/-
  The product's call: what its windows bring, what its body leaves at every point, and the call as a region of the program.
-/
module

public import proofs.«01_k».proof.Proof.Open

@[expose] public section

set_option maxRecDepth 16384

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The body -/

/-- A store over all of a buffer owned through a memref. -/
theorem store_all (c : Dev nD) {α : Type} {n k : ℕ} {e : EltTy} (a : Memref sig .tc .vmem ⟨2, ![n, k]⟩ e) {inb : ∀ i, (![0, 0] : Fin 2 → ℕ) i + (⟨2, ![n, k]⟩ : Shape).size i ≤ (⟨2, ![n, k]⟩ : Shape).size i}
    {hx : (a.access (Rect.unit (s := ⟨2, ![n, k]⟩) ![0, 0] (⟨2, ![n, k]⟩ : Shape).size inb)).Stores Finset.univ} {hm} (X w : Vec F ⟨2, ![n, k]⟩ e)
    (kk : PUnit → PG F α) (Q : α → sProp 𝕄) :
    (owns (c : Thread nD τ) a fullShare X : sProp 𝕄) ⊢ iprop((owns (c : Thread nD τ) a fullShare w -∗ WP c (kk ⟨⟩) Q)
      -∗ WP c (Prog.lift (.store a (Rect.unit (s := ⟨2, ![n, k]⟩) ![0, 0] (⟨2, ![n, k]⟩ : Shape).size inb) w Finset.univ hx hm) >>= kk) Q) := by
  simp only [Prog.lift, Prog.bind_op, Prog.bind_ret]
  unfold owns
  iintro ⟨%f, -, H⟩ Hk
  iapply (wp_store 𝒱₀ (c : Thread nD τ) none Set.univ (m := a) (r := Rect.unit (s := ⟨2, ![n, k]⟩) ![0, 0] (⟨2, ![n, k]⟩ : Shape).size inb) (Mk := Finset.univ)
    ((View.setOn_subset_set _ _).trans (View.set_slice_subset _ _))) $$ H
  iintro H
  iapply Hk
  iexists _
  isplitr
  rotate_left
  · iexact H
  ipureintro
  conv_rhs => rw [← View.read_write_univ (Val := Elt F) (v := a.access (Rect.unit (s := ⟨2, ![n, k]⟩) ![0, 0] (⟨2, ![n, k]⟩ : Shape).size inb)) f w]
  funext j
  rw [View.read_apply, View.read_apply]
  have h : (Rect.unit (s := ⟨2, ![n, k]⟩) ![0, 0] (⟨2, ![n, k]⟩ : Shape).size inb).emb j = j := by
    funext i
    apply Fin.ext
    show (![0, 0] : Fin 2 → ℕ) i + 1 * (j i).val = (j i).val
    match i with
    | 0 => show 0 + 1 * _ = _; omega
    | 1 => show 0 + 1 * _ = _; omega
  have h2 : (a.access (Rect.unit (s := ⟨2, ![n, k]⟩) ![0, 0] (⟨2, ![n, k]⟩ : Shape).size inb)).emb j = a.view.emb j := congrArg a.view.emb h
  rw [h2]

variable (m : (ℓ : Loc nD τ sig) → Buf (Elt F) ℓ)

/-- The block of the gathered x, and of the gathered w, that a point takes. -/
def blkX (c : Dev nD) (t : Fin cfg1.N) : Vec F S1024x4096 .bf16 := ((cfg1.win 0).blk t).view.read (Elt F) (gXB (inp m) c)
def blkW (t : Fin cfg1.N) : Vec F S4096x1024 .bf16 := ((cfg1.win 1).blk t).view.read (Elt F) (gWB (inp m))

theorem before1_0 (c : Dev nD) (t : Fin cfg1.N) (d) : (dat1 m c).before 0 t d = blkX m c t :=
  (dat1 m c).before_in_eq_fetched 0 rfl (fun _ => rfl) (fun _ _ _ => rfl) (fun _ => rfl) t d
theorem before1_1 (c : Dev nD) (t : Fin cfg1.N) (d) : (dat1 m c).before 1 t d = blkW m t :=
  (dat1 m c).before_in_eq_fetched 1 rfl (fun _ => rfl) (fun _ _ _ => rfl) (fun _ => rfl) t d

theorem found1_0 (c : Dev nD) (t : Fin cfg1.N) : iprop(∃ d, owns (c : Thread nD τ) (st1_0 t) fullShare ((dat1 m c).before 0 t d)) ⊢ (owns (c : Thread nD τ) (st1_0 t) fullShare (blkX m c t) : sProp 𝕄) := by
  iintro ⟨%d, H⟩
  iapply (Entails.of_eq (congrArg (owns (c : Thread nD τ) (st1_0 t) fullShare) (before1_0 m c t d))) $$ H
theorem found1_1 (c : Dev nD) (t : Fin cfg1.N) : iprop(∃ d, owns (c : Thread nD τ) (st1_1 t) fullShare ((dat1 m c).before 1 t d)) ⊢ (owns (c : Thread nD τ) (st1_1 t) fullShare (blkW m t) : sProp 𝕄) := by
  iintro ⟨%d, H⟩
  iapply (Entails.of_eq (congrArg (owns (c : Thread nD τ) (st1_1 t) fullShare) (before1_1 m c t d))) $$ H

/-- The product's body on owned buffers: the two blocks stay and the result's block is the payload. -/
theorem mm_run (c : Dev nD) (i : grid1.Coords) (a : Memref sig .tc .vmem S1024x4096 .bf16) (ha) (b : Memref sig .tc .vmem S4096x1024 .bf16) (hb)
    (o : Memref sig .tc .vmem S1024x1024 .f32) (ho) (X : Vec F S1024x4096 .bf16) (Y : Vec F S4096x1024 .bf16) (Z : Vec F S1024x1024 .f32) (Q : PUnit → sProp 𝕄) :
    iprop(owns (c : Thread nD τ) a fullShare X ∗ owns (c : Thread nD τ) b fullShare Y ∗ owns (c : Thread nD τ) o fullShare Z)
      ⊢ iprop((owns (c : Thread nD τ) a fullShare X ∗ owns (c : Thread nD τ) b fullShare Y ∗ owns (c : Thread nD τ) o fullShare (k1_pay1 X Y) -∗ Q ⟨⟩)
        -∗ WP c (cc1__mm_body (F := F) i a ha b hb o ho) Q) := by
  rw [cc1__mm_body_eq_skeleton]
  unfold cc1__mm_body_skel
  iintro ⟨HX, HY, HZ⟩ Hk
  iapply (load_all c a X) $$ HX
  iintro HX
  iapply (load_all c b Y) $$ HY
  iintro HY
  iapply (load_all c o Z) $$ HZ
  iintro HZ
  iapply (store_all c o Z (k1_pay1 X Y)) $$ HZ
  iintro HZ
  iapply (ret_step c Q)
  iapply Hk
  isplitl [HX]; · iexact HX
  isplitl [HY]; · iexact HY
  iexact HZ

theorem Φ1_val (c : Dev nD) (t : Fin (cfg1.N + 1)) : (dat1 m c).Φ t = Pipeline.scopedRest spec1 c := rfl
theorem Φ1_eq (c : Dev nD) (t u : Fin (cfg1.N + 1)) : (dat1 m c).Φ t ⊢ (dat1 m c).Φ u := Entails.of_eq rfl

set_option maxRecDepth 65536 in
theorem body1 (c : Dev nD) : BodyObligation (dat1 m c) defs₀ 𝒱₀ () Set.univ := fun t => by
  rw [bigSep_W1, bigSep_W1]
  show _ ⊢ WP c (bodyAt1 t) _
  iintro ⟨HΦ, HO, F0, F1, ⟨%d, F2⟩⟩
  ihave H0 := (found1_0 m c t) $$ F0
  ihave H1 := (found1_1 m c t) $$ F1
  ihave HO' := (owesAt_elim (dat1 m c) _ 0 rfl) $$ HO
  iapply (mm_run c _ (st1_0 t) _ (st1_1 t) _ (st1_2 t) _ (blkX m c t) (blkW m t) _ _) $$ [H0 H1 F2]
  · isplitl [H0]; · iexact H0
    isplitl [H1]; · iexact H1
    iexact F2
  iintro ⟨H0, H1, H2⟩
  isplitl [HΦ]; · iapply (Φ1_eq m c t.castSucc t.succ); iexact HΦ
  isplitl [HO']; · iapply (owesAt_intro (dat1 m c) t.succ 0 rfl rfl); iexact HO'
  isplitl [H0]; · iexact H0
  isplitl [H1]; · iexact H1
  iexact H2

/-! ## The region -/

theorem arr1 (c : Dev nD) : ∀ w : Fin 3, (dat1 m c).A w = W2 m c (Proc.devRef .tc (Pipeline.arrRef spec1 w))
  | 0 => (W2_x m c).symm
  | 1 => (W2_w m c).symm
  | 2 => (W2_of m c main_v4 (by decide)).symm
  | ⟨_ + 3, h⟩ => absurd h (Nat.not_lt.2 (Nat.le_add_left _ _))
theorem arr1' (c : Dev nD) : ∀ w : Fin 3, (dat1 m c).arrAt w cfg1.N = W3 m c (Proc.devRef .tc (Pipeline.arrRef spec1 w))
  | 0 => ((dat1 m c).arrAt_in 0 rfl _).trans ((arr1 m c 0).trans (W3_of m c main_v3_0 (by decide)).symm)
  | 1 => ((dat1 m c).arrAt_in 1 rfl _).trans ((arr1 m c 1).trans (W3_of m c main_v3_1 (by decide)).symm)
  | 2 => (W3_res m c).symm
  | ⟨_ + 3, h⟩ => absurd h (Nat.not_lt.2 (Nat.le_add_left _ _))
theorem share1 (c : Dev nD) : ∀ w : Fin 3, (dat1 m c).share w = fullShare
  | 0 => rfl
  | 1 => rfl
  | 2 => rfl
  | ⟨_ + 3, h⟩ => absurd h (Nat.not_lt.2 (Nat.le_add_left _ _))

theorem cut1 : Pipeline.LevelCut (pcfgs (F := F)) adm () LL lv 1 (fun _ => 0) (fun _ => 0) where
  hι c w s := by rw [LL_tc]; exact Finset.mem_singleton_self _
  hιb c w s := lv_stage c _ ((by decide : ∀ (w : Fin 3) (s : Fin (spec1 w).nbuf), ¬ isRing ((spec1 w).sem s)) w s)
  hD c g i h := absurd h (Nat.lt_irrefl 0)

/-- The buffers outside the scope that the product's windows do not bring. -/
def SR1 : Finset (DevRef τ sig) := Pipeline.ucRefs τ sig \ Pipeline.arrRefs (τ := τ) spec1

theorem in1 (c : Dev nD) : iprop(Pipeline.scopedRest (Pipeline.pin (pcfgs (F := F)) adm 1).spec c ∗ emp) ⊢ (pdats m 1 c).Φ 0 := by
  show _ ⊢ (dat1 m c).Φ 0
  rw [Φ1_val, show (Pipeline.scopedRest (Pipeline.pin (pcfgs (F := F)) adm 1).spec c : sProp 𝕄) = Pipeline.scopedRest spec1 c from rfl]
  iintro ⟨H, -⟩
  iexact H
theorem out1 (c : Dev nD) : (pdats m 1 c).Φ (Fin.last (Pipeline.pin (pcfgs (F := F)) adm 1).N) ⊢ iprop(Pipeline.scopedRest (Pipeline.pin (pcfgs (F := F)) adm 1).spec c ∗ emp) := by
  show (dat1 m c).Φ (Fin.last _) ⊢ _
  rw [Φ1_val, show (Pipeline.scopedRest (Pipeline.pin (pcfgs (F := F)) adm 1).spec c : sProp 𝕄) = Pipeline.scopedRest spec1 c from rfl]
  iintro H
  isplitl [H]; · iexact H
  iempintro

/-- What rides by the product's call. -/
def Rest1 (c : Dev nD) : sProp 𝕄 := iprop(StableHlo.held (c.tc : Thread nD τ) SR1 (W2 m c) ∗ (∃ r, prngReg c r) ∗ semVal (cellB c) 0)

set_option backward.isDefEq.respectTransparency.types false in
/-- The product's call as a region. -/
def reg1 : Pipeline.RegionSeg (pcfgs (F := F)) adm (pdats m) () defs₀ 𝒱₀ LL lv 1 :=
  Pipeline.RegionSeg.ofHeld (pcfgs (F := F)) adm (pdats m) () defs₀ 𝒱₀ LL lv 1 (fun _ => 0) (fun _ => iprop(emp)) (fun _ => iprop(emp)) launch1.toP rfl
    (fun c => (body1 m c).loose) (fun _ _ => rfl) (fun _ => rfl) (share1 m)
    (in1 m) (out1 m)
    (fun _ => 0) cut1 (Rest1 m) (W2 m) (W3 m) (arr1 m) (arr1' m)

end Cert.KernelIdeal.Gath
-- ==== Proof.Launch.lean ====
/-
  The launch: the protocol's ghost state is funded once and dealt to the devices: to each its positions, its rights to open its
  own cells, the tokens of what it will pay to its neighbours, and the credits of what they will pay to it.
-/
module

public import proofs.«01_k».proof.Proof.Region1

@[expose] public section

set_option maxRecDepth 16384

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The cells and the tokens -/

/-- Round the ring by one. -/
def ringEq : Dev nD ≃ Dev nD := ⟨nxt, prv, prv_nxt, nxt_prv⟩
/-- A stream's receiver, with the stream. -/
def fwdEq : Dev nD × Str ≃ Dev nD × Str :=
  ⟨fun i => (fwd i.2 i.1, i.2), fun i => (bwd i.2 i.1, i.2), fun i => Prod.ext (bwd_fwd _ _) rfl, fun i => Prod.ext (fwd_bwd _ _) rfl⟩

theorem reg_ne_dma {a b : Thread nD τ} {s : Sem sig} {t : DmaSem sig} (e : ((a, SemLoc.reg s) : GSem nD τ sig) = (b, SemLoc.dma t)) : False := by
  have h : (SemLoc.reg s : SemLoc sig) = SemLoc.dma t := congrArg Prod.snd e
  cases h

abbrev barCells : Finset (GSem nD τ sig) := Finset.univ.map bcellE
abbrev ringCells : Finset (GSem nD τ sig) := Finset.univ.map dcellE

theorem cells_apart : Disjoint barCells ringCells := by
  rw [Finset.disjoint_left]
  rintro g h₁ h₂
  obtain ⟨c, -, rfl⟩ := Finset.mem_map.mp h₁
  obtain ⟨i, -, h⟩ := Finset.mem_map.mp h₂
  exact reg_ne_dma h.symm

/-- The duties: two at each barrier cell, one at each ring cell. -/
abbrev TI : Type := (Dev nD × Bool) ⊕ DI
def tok : TI → GSem nD τ sig × ℕ × Bool
  | .inl i => (cellB i.1, 0, i.2)
  | .inr i => (dcell i, 0, false)
theorem tok_inj : Function.Injective tok := by
  rintro (⟨c, b⟩ | i) (⟨d, b'⟩ | j) h
  · have h1 : cellB c = cellB d := congrArg Prod.fst h
    have h2 : b = b' := congrArg (fun t : GSem nD τ sig × ℕ × Bool => t.2.2) h
    rw [bcellE.injective h1, h2]
  · exact (reg_ne_dma (congrArg Prod.fst h)).elim
  · exact (reg_ne_dma (congrArg Prod.fst h).symm).elim
  · rw [dcell_inj (congrArg Prod.fst h)]
abbrev allToks : Finset (GSem nD τ sig × ℕ × Bool) := Finset.univ.map ⟨tok, tok_inj⟩

/-- The protocol's launch element. -/
def launchU : UB := launchOf barCells ringCells allToks
def u₀ : UU := (initOf (Pipeline.cells cfgs cellOf_inj) (Pipeline.launchToks cfgs cellOf_inj), (launchU, (1 : Counters)))

theorem own_u₀ : (ownU u₀ : sProp 𝕄) ⊢ iprop(BI.own (EP (F := F) (initOf (Pipeline.cells cfgs cellOf_inj) (Pipeline.launchToks cfgs cellOf_inj))) ∗ BI.own (ER (F := F) launchU)) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (launchU, (1 : Counters)))))

/-- A resource held by device 0 until it is dealt. -/
def onZero (X : sProp 𝕄) (c : Dev nD) : sProp 𝕄 := if c = 0 then X else iprop(emp)
theorem bigSep_onZero (X : sProp 𝕄) : bigSep Finset.univ (onZero X) = X := by
  rw [bigSep_univ_at _ 0, bigSep_congr (s := Finset.univ.erase 0) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp
def G : Dev nD → sProp 𝕄 := onZero (BI.own (ER (F := F) launchU))

/-! ## Families over the cells -/

theorem bar_fam (Φ : GSem nD τ sig → sProp 𝕄) : bigSep barCells Φ = bigSep Finset.univ fun c : Dev nD => Φ (cellB c) := bigSep_map _

/-- A family over the ring's cells, per device and stream: the send cells and the receive cells. -/
theorem ring_fam (Φ : GSem nD τ sig → sProp 𝕄) : bigSep (Finset.univ : Finset DI) (fun i => Φ (dcell i))
    = bigSep (Finset.univ : Finset (Dev nD × Str)) fun i => iprop((bigSep Finset.univ fun h : Fin 15 => Φ (cellS i.1 i.2 h)) ∗ (bigSep Finset.univ fun h : Fin 15 => Φ (cellR i.1 i.2 h))) := by
  rw [bigSep_univ_prod, bigSep_univ_prod (α := Dev nD)]
  refine bigSep_congr fun c _ => ?_
  rw [bigSep_univ_prod]
  refine bigSep_congr fun κ _ => ?_
  rw [bigSep_univ_prod, bigSep_univ_eq_bigSepL [false, true] (by decide) (by decide)]
  rfl

theorem toks_fam : bigSep allToks (fun x => (dutyTok ER x.1 x.2.1 x.2.2 : sProp 𝕄))
    = iprop((bigSep Finset.univ fun c : Dev nD => iprop(dutyTok ER (cellB c) 0 false ∗ dutyTok ER (cellB c) 0 true))
      ∗ bigSep (Finset.univ : Finset (Dev nD × Str)) fun i => iprop((bigSep Finset.univ fun h : Fin 15 => dutyTok ER (cellS i.1 i.2 h) 0 false) ∗ (bigSep Finset.univ fun h : Fin 15 => dutyTok ER (cellR i.1 i.2 h) 0 false))) := by
  rw [bigSep_map, BI.bigSep_univ_sum, ← ring_fam (fun g => dutyTok ER g 0 false)]
  refine congrArg₂ (fun P Q : sProp 𝕄 => iprop(P ∗ Q)) ?_ rfl
  rw [bigSep_univ_prod]
  refine bigSep_congr fun c _ => ?_
  rw [bigSep_univ_eq_bigSepL [false, true] (by decide) (by decide)]
  rfl

/-- A device's own part of the ring's cells but for the credits. -/
def Right (c : Dev nD) (κ : Str) : sProp 𝕄 :=
  iprop((bigSep Finset.univ fun h : Fin 15 => dutyTok ER (cellS c κ h) 0 false) ∗ (bigSep Finset.univ fun h : Fin 15 => dutyTok ER (cellR (fwd κ c) κ h) 0 false)
    ∗ (bigSep Finset.univ fun h : Fin 15 => openTok ER (cellS c κ h)) ∗ (bigSep Finset.univ fun h : Fin 15 => openTok ER (cellR c κ h)))
/-- What is dealt to device c. -/
def Dealt (c : Dev nD) : sProp 𝕄 :=
  iprop((dutyTok ER (cellB (prv c)) 0 false ∗ dutyTok ER (cellB (nxt c)) 0 true) ∗ atPos ER (cellB c) 0 ∅ 0 ∗ bigSep Finset.univ fun κ : Str => Right c κ)

/-- The tokens dealt round the ring. -/
theorem deal : iprop((bigSep barCells fun g => atPos ER g 0 ∅ 0) ∗ (bigSep ringCells fun g => openTok ER g) ∗ bigSep allToks fun x => dutyTok ER x.1 x.2.1 x.2.2)
    ⊢ (bigSep Finset.univ fun c : Dev nD => Dealt c : sProp 𝕄) := by
  rw [bar_fam, toks_fam, bigSep_map, show (bigSep Finset.univ fun i : DI => openTok ER (dcellE i) : sProp 𝕄) = bigSep Finset.univ fun i : DI => openTok ER (dcell i) from rfl,
    ring_fam (fun g => openTok ER g)]
  unfold Dealt
  rw [bigSep_sep', bigSep_sep', bigSep_sep', bigSep_sep', bigSep_sep', bigSep_sep',
    bigSep_univ_equiv ringEq.symm (fun c : Dev nD => (dutyTok ER (cellB c) 0 false : sProp 𝕄)),
    bigSep_univ_equiv ringEq (fun c : Dev nD => (dutyTok ER (cellB c) 0 true : sProp 𝕄)),
    bigSep_univ_equiv fwdEq (fun i : Dev nD × Str => (bigSep Finset.univ fun h : Fin 15 => dutyTok ER (cellR i.1 i.2 h) 0 false : sProp 𝕄)),
    ← bigSep_univ_prod (fun i : Dev nD × Str => (Right i.1 i.2 : sProp 𝕄))]
  unfold Right
  rw [bigSep_sep', bigSep_sep', bigSep_sep']
  iintro ⟨Hat, ⟨HoS, HoR⟩, ⟨Hf, Ht⟩, HtS, HtR⟩
  isplitl [Hf Ht]
  · isplitl [Hf]; · iexact Hf
    iexact Ht
  isplitl [Hat]; · iexact Hat
  isplitl [HtS]; · iexact HtS
  isplitl [HtR]; · iexact HtR
  isplitl [HoS]; · iexact HoS
  iexact HoR

/-! ## The credits -/

omit [FloatOps F] in
theorem owe_sum (d : Dev nD) (g : GSem nD τ sig) (u : Unit) : owe d 0 g u = ∑ h : Fin 15, ∑ κ : Str, due d h κ g u := by
  unfold owe
  rw [Finset.sum_apply, Finsupp.finset_sum_apply, Finset.filter_true_of_mem (fun h _ => Nat.zero_le h.val)]
  refine Finset.sum_congr rfl fun h _ => ?_
  rw [Fin.sum_univ_four]
  simp only [Pi.add_apply, Finsupp.add_apply]
  omega

omit [FloatOps F] in
theorem due_recv (d c : Dev nD) (h k : Fin 15) (κ μ : Str) : due d h κ (cellR c μ k) () = if h = k then (if κ = μ then (if d = bwd μ c then NN μ else 0) else 0) else 0 := by
  unfold due
  rw [tallyAt_apply]
  by_cases e : cellR c μ k = cellR (fwd κ d) κ h
  · have e0 : (c, μ, true, k) = ((fwd κ d, κ, true, h) : DI) := dcell_inj e
    simp only [Prod.mk.injEq, true_and] at e0
    obtain ⟨rfl, rfl, rfl⟩ := e0
    rw [if_pos ⟨e, rfl⟩, if_pos rfl, if_pos rfl, if_pos (bwd_fwd _ _).symm]
  · rw [if_neg (fun x => e x.1)]
    split
    · split
      · split
        · subst_vars; exact absurd (by rw [fwd_bwd]) e
        · rfl
      · rfl
    · rfl

omit [FloatOps F] in
theorem owed_recv (d c : Dev nD) (k : Fin 15) (μ : Str) : owe0 d (cellR c μ k) () = if d = bwd μ c then NN μ else 0 := by
  have hb : ∀ e : Dev nD, tallyAt (cellB e) () 1 (cellR c μ k) () = 0 := fun e => by
    rw [tallyAt_apply]; exact if_neg (fun x => reg_ne_dma x.1.symm)
  unfold owe0
  rw [Pi.add_apply, Finsupp.add_apply, Pi.add_apply, Finsupp.add_apply, hb, hb, owe_sum]
  simp only [due_recv, Finset.sum_ite_eq', Finset.mem_univ, if_true, Nat.add_zero]
  rw [Finset.sum_eq_single k (fun h _ hn => by simp [hn]) (fun h => absurd (Finset.mem_univ _) h)]
  simp

omit [FloatOps F] in
theorem owed_bar (d c : Dev nD) : owe0 d (cellB c) () = (if d = prv c then 1 else 0) + (if d = nxt c then 1 else 0) := by
  have h0 : owe d 0 (cellB c) () = 0 := by
    by_contra hn
    obtain ⟨h, κ, -, e⟩ := owe_at d 0 (cellB c) () (Nat.pos_of_ne_zero hn)
    exact reg_ne_dma e
  have hc : ∀ a b : Dev nD, (cellB a = cellB b ∧ () = ()) ↔ a = b := fun a b => ⟨fun x => bcellE.injective x.1, fun x => ⟨x ▸ rfl, rfl⟩⟩
  unfold owe0
  rw [Pi.add_apply, Finsupp.add_apply, Pi.add_apply, Finsupp.add_apply, h0, tallyAt_apply, tallyAt_apply, Nat.zero_add]
  refine congrArg₂ (· + ·) (if_congr ((hc _ _).trans ⟨fun x => ?_, fun x => ?_⟩) rfl rfl) (if_congr ((hc _ _).trans ⟨fun x => ?_, fun x => ?_⟩) rfl rfl)
  · rw [x, prv_nxt]
  · rw [x, nxt_prv]
  · rw [x, nxt_prv]
  · rw [x, prv_nxt]

omit [FloatOps F] in
theorem launch_bar (c : Dev nD) : tallyOn (cellB c) (launchCredit (Pipeline.owing owe0) 0 (cellB c)) = (tallyAt (cellB c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

omit [FloatOps F] in
theorem launch_recv (c : Dev nD) (κ : Str) (h : Fin 15) :
    tallyOn (cellR c κ h) (launchCredit (Pipeline.owing owe0) 0 (cellR c κ h)) = (tallyAt (cellR c κ h) () (NN κ) : CellTallies nD τ sig Unit) := by
  unfold tallyAt; refine congrArg _ (Finsupp.ext fun u => ?_); cases u
  rw [Pipeline.launchCredit_owing, Finsupp.single_eq_same, Finset.sum_congr rfl fun d _ => owed_recv d c h κ,
    Finset.sum_ite_eq' Finset.univ (bwd κ c) fun _ => NN κ, if_pos (Finset.mem_univ _)]

def rcvE : Str × Fin 15 ↪ SemLoc sig :=
  ⟨fun i => .dma (recvSem i.1 i.2), fun i j e => by
    have := ringSem_inj (a₁ := (i.1, true, i.2)) (a₂ := (j.1, true, j.2)) (SemLoc.dma.inj e)
    exact Prod.ext (congrArg (fun t : Str × Bool × Fin 15 => t.1) this) (congrArg (fun t : Str × Bool × Fin 15 => t.2.2) this)⟩

theorem creds (c : Dev nD) : (Pipeline.launchCred owe0 c : sProp 𝕄)
    ⊢ iprop(cred (tallyAt (cellB c) () 2) ∗ bigSep Finset.univ fun κ : Str => bigSep Finset.univ fun h : Fin 15 => cred (tallyAt (cellR c κ h) () (NN κ))) := by
  unfold Pipeline.launchCred
  rw [bigSep_univ_at _ (SemLoc.reg barS), launch_bar]
  refine sep_mono_right ?_
  have hs : Finset.univ.map rcvE ⊆ Finset.univ.erase (SemLoc.reg barS) := fun s hs => by
    obtain ⟨i, -, rfl⟩ := Finset.mem_map.mp hs
    exact Finset.mem_erase.mpr ⟨fun e => (by cases e), Finset.mem_univ _⟩
  refine (bigSep_subset hs).trans ?_
  have hr : ∀ (κ : Str) (h : Fin 15), (cred (tallyOn ((c : Thread nD τ), rcvE (κ, h)) (launchCredit (Pipeline.owing owe0) 0 ((c : Thread nD τ), rcvE (κ, h)))) : sProp 𝕄)
      = cred (tallyAt (cellR c κ h) () (NN κ)) := fun κ h => congrArg cred (launch_recv c κ h)
  rw [bigSep_map, bigSep_univ_prod]
  simp only [hr]
  exact BI.Entails.refl _

end Cert.KernelIdeal.Gath
-- ==== Proof.Run.lean ====
/-
  The run: from the launch through the host's operations and the two calls to the end, where every buffer outside the calls' scope is
  as `W3` says and every counter is zero.
-/
module

public import proofs.«01_k».proof.Proof.Launch

@[expose] public section

set_option maxRecDepth 16384

noncomputable section

namespace Cert.KernelIdeal.Gath

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the launch makes -/

/-- A device's credits. -/
def Creds (c : Dev nD) : sProp 𝕄 :=
  iprop(cred (tallyAt (cellB c) () 2) ∗ bigSep Finset.univ fun κ : Str => bigSep Finset.univ fun h : Fin 15 => cred (tallyAt (cellR c κ h) () (NN κ)))

theorem shut_intro (c : Dev nD) (κ : Str) : iprop(Right c κ ∗ bigSep Finset.univ fun h : Fin 15 => cred (tallyAt (cellR c κ h) () (NN κ))) ⊢ (Shut κ c : sProp 𝕄) := by
  unfold Right Shut
  rw [bigSep_sep']
  iintro ⟨⟨HS, HR, HoS, HoR⟩, HC⟩
  isplitl [HS HR]
  · isplitl [HS] <;> iassumption
  isplitl [HoS]; · iexact HoS
  isplitl [HoR] <;> iassumption

theorem kept_intro (K : GSem nD τ sig → ℕ) (c : Dev nD) : iprop(records (inp m) K ∗ Dealt c ∗ Creds c) ⊢ Kept m c := by
  unfold Dealt Creds Kept Bars
  iintro ⟨#HR, ⟨⟨Hf, Ht⟩, Hat, HD⟩, HB, HC⟩
  iexists K
  isplitr; · iexact HR
  isplitl [Hf Ht HB Hat]
  · isplitl [Hf]; · iexact Hf
    isplitl [Ht]; · iexact Ht
    isplitl [HB] <;> iassumption
  rw [four_fam]
  ihave H := (show iprop((bigSep Finset.univ fun κ : Str => Right c κ) ∗ bigSep Finset.univ fun κ : Str => bigSep Finset.univ fun h : Fin 15 => cred (tallyAt (cellR c κ h) () (NN κ)))
      ⊢ (bigSep Finset.univ fun κ : Str => Shut κ c : sProp 𝕄) from by
        rw [← bigSep_sep']; exact bigSep_mono fun κ _ => shut_intro c κ) $$ [HD HC]
  · isplitl [HD] <;> iassumption
  iexact H

/-- What rides by the host's operations. -/
def E0 (c : Dev nD) : sProp 𝕄 := iprop(Kept m c ∗ (∃ r, prngReg c r) ∗ ow c (owe0 c))
abbrev T₀ (c : Dev nD) : sProp 𝕄 := iprop(StableHlo.held (c : Thread nD τ) (Pipeline.ucRefs τ sig) (V0 m c) ∗ E0 m c)
abbrev Tₙ (c : Dev nD) : sProp 𝕄 := iprop(StableHlo.held (c : Thread nD τ) (Pipeline.ucRefs τ sig) (W3 m c) ∗ semVal (cellB c) 0)

/-- Of a core's launch holdings, what is not the protocol's ghost state. -/
def Bundle (c : Dev nD) : sProp 𝕄 :=
  iprop(StableHlo.held (c : Thread nD τ) (Pipeline.ucRefs τ sig) (V0 m c) ∗ Creds c ∗ owes (c : Thread nD τ) (owe0 c) ∅ ∗ ∃ r, prngReg c r)

theorem T₀_intro (K : GSem nD τ sig → ℕ) (c : Dev nD) : iprop(records (inp m) K ∗ (Dealt c ∗ Bundle m c)) ⊢ T₀ m c := by
  unfold T₀ Bundle E0 ow
  iintro ⟨#HR, HD, Hh, HC, HO, Hp⟩
  isplitl [Hh]; · iexact Hh
  isplitl [HD HC]
  · iapply (kept_intro m K c)
    isplitr; · iexact HR
    isplitl [HD] <;> iassumption
  isplitl [Hp]; · iexact Hp
  iexists ∅; iexact HO

/-- The semaphores outside the scope: the barrier's. -/
theorem unscoped_bar : ∀ sm : SemLoc sig, sm.isScoped .tc = false → sm = .reg barS := by decide +kernel
theorem unscoped_one (c : Dev nD) : (unscopedSems0 c : sProp 𝕄) = semVal (cellB c) 0 := by
  unfold unscopedSems0
  rw [show (Finset.univ.filter fun sm : SemLoc sig => ¬ sm.isScoped .tc = true) = {SemLoc.reg barS} from by decide +kernel, bigSep_singleton]

theorem core (c : Dev nD) : iprop(unscopedBufs c (fun b => m ((c : Thread nD τ).loc b)) ∗ unscopedSems0 c
      ∗ owes (c : Thread nD τ) (owe0 c) ∅ ∗ Pipeline.launchCred owe0 c ∗ prngReg c (ρ c) ∗ G c)
    ⊢ (iprop(Bundle m c ∗ (semVal (cellB c) 0 ∗ G c)) : sProp 𝕄) := by
  rw [show unscopedBufs c (fun b => m ((c : Thread nD τ).loc b)) = StableHlo.held (c : Thread nD τ) (Pipeline.ucRefs τ sig) (V0 m c) from Pipeline.unscopedBufs_held c (V0 m c), unscoped_one]
  unfold Bundle
  iintro ⟨Hh, Hus, HO, Hcr, Hp, HG⟩
  ihave Hc := (creds (F := F) c) $$ Hcr
  isplitr [Hus HG]
  · isplitl [Hh]; · iexact Hh
    isplitl [Hc]; · unfold Creds; iexact Hc
    isplitl [HO]; · iexact HO
    iexists (ρ c); iexact Hp
  isplitl [Hus] <;> iassumption

theorem init : iprop((bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c)) ∗ levAts LL lv)
      ⊢ (|={Set.univ}=> bigSep Finset.univ (T₀ m) : sProp 𝕄) := by
  iintro ⟨H, #HL⟩
  ihave H' := (show (bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c))
      ⊢ (bigSep Finset.univ fun c : Dev nD => iprop(Bundle m c ∗ (semVal (cellB c) 0 ∗ G c)) : sProp 𝕄) from bigSep_mono fun c _ => core m ρ c) $$ H
  ihave H2 := (show (bigSep Finset.univ fun c : Dev nD => iprop(Bundle m c ∗ (semVal (cellB c) 0 ∗ G c)) : sProp 𝕄)
      ⊢ iprop((bigSep Finset.univ fun c : Dev nD => Bundle m c) ∗ (bigSep Finset.univ fun c : Dev nD => semVal (cellB c) 0) ∗ bigSep Finset.univ fun c : Dev nD => G c) from by
        rw [bigSep_sep', bigSep_sep']) $$ H'
  icases H2 with ⟨HB, Hv, HG⟩
  ihave Hu := (show bigSep Finset.univ (G (F := F)) ⊢ BI.own (ER (F := F) (launchOf barCells ringCells allToks)) from
    Entails.of_eq (bigSep_onZero (F := F) _)) $$ HG
  imod (Rounds.fund_launch ER (Rd (inp m)) cells_apart (fun g _ h => h) allToks) $$ [Hv Hu] with ⟨%K, -, #Hinv, #Hr, Hat, Hopen, Htok⟩
  · isplitl [Hv]
    · iapply (Entails.of_eq (bar_fam (F := F) (fun g => semVal g 0)).symm) $$ Hv
    · iexact Hu
  imodintro
  iapply (bigSep_with_persistent (R := records (inp m) K) (Φ := fun c => iprop(Dealt c ∗ Bundle m c)) fun c _ => T₀_intro m K c)
  isplitr
  · ihave Hi := (show (bigSep (barCells ∪ ringCells) fun g => cellInv ER (Rd (inp m)) (K g) g : sProp 𝕄)
      ⊢ iprop((bigSep barCells fun g => cellInv ER (Rd (inp m)) (K g) g) ∗ bigSep ringCells fun g => cellInv ER (Rd (inp m)) (K g) g) from
        Entails.of_eq (bigSep_union cells_apart)) $$ Hinv
    icases Hi with ⟨#Hi1, #Hi2⟩
    unfold records levs
    isplitr
    · iapply (Entails.of_eq (bar_fam (F := F) (fun g => cellInv ER (Rd (inp m)) (K g) g))); iexact Hi1
    isplitr
    · iapply (Entails.of_eq (bigSep_map dcellE (s := Finset.univ) (Φ := fun g => cellInv ER (Rd (inp m)) (K g) g))); iexact Hi2
    isplitr
    · iapply (Entails.of_eq (bar_fam (F := F) (fun g => reached ER g 0))); iexact Hr
    iexact HL
  iapply (show iprop((bigSep Finset.univ fun c : Dev nD => Dealt c) ∗ (bigSep Finset.univ fun c : Dev nD => Bundle m c))
      ⊢ (bigSep Finset.univ fun c : Dev nD => iprop(Dealt c ∗ Bundle m c) : sProp 𝕄) from by rw [← bigSep_sep'])
  isplitr [HB]
  · iapply (deal (F := F))
    isplitl [Hat]; · iexact Hat
    isplitl [Hopen] <;> iassumption
  · iexact HB

/-! ## Between the calls -/

theorem uc_split0 (c : Dev nD) (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) SR W) :=
  StableHlo.held_sub_split _ (Pipeline.arrRefs_sub_ucRefs spec0 (by decide +kernel)) W
theorem uc_split1 (c : Dev nD) (W : Valuation τ sig (Elt F)) : (StableHlo.held (c.tc : Thread nD τ) (Pipeline.ucRefs τ sig) W : sProp 𝕄)
    = iprop(StableHlo.held (c.tc : Thread nD τ) (Pipeline.arrRefs spec1) W ∗ StableHlo.held (c.tc : Thread nD τ) SR1 W) :=
  StableHlo.held_sub_split _ (Pipeline.arrRefs_sub_ucRefs spec1 (by decide +kernel)) W

theorem res_not : Proc.devRef .tc main_v4 ∉ SR1 := by decide +kernel
theorem rest1_same (c : Dev nD) : (StableHlo.held (c.tc : Thread nD τ) SR1 (W2 m c) : sProp 𝕄) = StableHlo.held (c.tc : Thread nD τ) SR1 (W3 m c) :=
  StableHlo.held_congr _ fun b hb => by
    have hn : b ≠ Proc.devRef .tc main_v4 := fun e => res_not (by rw [← e]; exact hb)
    unfold W3
    rw [Function.update_of_ne hn]

def mid (c : Dev nD) : sProp 𝕄 := iprop(StableHlo.held (c.tc : Thread nD τ) (Pipeline.ucRefs τ sig) (W2 m c) ∗ (∃ r, prngReg c r) ∗ semVal (cellB c) 0 ∗ ow c 0)

theorem pre0 (c : Dev nD) : iprop(StableHlo.held (c : Thread nD τ) (Pipeline.ucRefs τ sig) (V1 m c) ∗ E0 m c) ⊢ (reg0 m).pre c := by
  show _ ⊢ iprop(StableHlo.held (c.tc : Thread nD τ) (Pipeline.arrRefs spec0) (V1 m c) ∗ (∃ r, prngReg c r) ∗ (StableHlo.held (c.tc : Thread nD τ) SR (V1 m c) ∗ emp)
    ∗ Kept m c ∗ ∃ Wd, owes (c : Thread nD τ) (0 + owe0 c) Wd)
  rw [uc_split0, zero_add]
  unfold E0 ow
  iintro ⟨⟨HA, HS⟩, HK, Hp, HO⟩
  isplitl [HA]; · iexact HA
  isplitl [Hp]; · iexact Hp
  isplitl [HS]
  · isplitl [HS]; · iexact HS
    iempintro
  isplitl [HK] <;> iassumption

theorem post0 (c : Dev nD) : (reg0 m).post c ⊢ mid m c := by
  show iprop(StableHlo.held (c.tc : Thread nD τ) (Pipeline.arrRefs spec0) (W2 m c) ∗ (∃ r, prngReg c r) ∗ (StableHlo.held (c.tc : Thread nD τ) SR (W2 m c) ∗ emp)
    ∗ semVal (cellB c) 0 ∗ ∃ Wd, owes (c : Thread nD τ) 0 Wd) ⊢ _
  unfold mid ow
  rw [uc_split0]
  iintro ⟨HA, Hp, ⟨HS, -⟩, Hb, HO⟩
  isplitl [HA HS]
  · isplitl [HA] <;> iassumption
  isplitl [Hp]; · iexact Hp
  isplitl [Hb] <;> iassumption

theorem pre1 (c : Dev nD) : mid m c ⊢ (reg1 m).pre c := by
  show _ ⊢ iprop(StableHlo.held (c.tc : Thread nD τ) (Pipeline.arrRefs spec1) (W2 m c) ∗ emp ∗ Rest1 m c ∗ ∃ Wd, owes (c : Thread nD τ) 0 Wd)
  unfold mid ow Rest1
  rw [uc_split1]
  iintro ⟨⟨HA, HS⟩, Hp, Hb, HO⟩
  isplitl [HA]; · iexact HA
  isplitr; · iempintro
  isplitr [HO]
  · isplitl [HS]; · iexact HS
    isplitl [Hp] <;> iassumption
  iexact HO

theorem post1 (c : Dev nD) : (reg1 m).post c ⊢ iprop(Tₙ m c ∗ ∃ W, owes (c : Thread nD τ) (0 : CellTallies nD τ sig Unit) W) := by
  show iprop(StableHlo.held (c.tc : Thread nD τ) (Pipeline.arrRefs spec1) (W3 m c) ∗ emp ∗ Rest1 m c ∗ ∃ Wd, owes (c : Thread nD τ) 0 Wd) ⊢ _
  unfold Rest1 Tₙ
  rw [uc_split1, rest1_same]
  iintro ⟨HA, -, ⟨HS, -, Hb⟩, HO⟩
  isplitr [HO]
  · isplitl [HA HS]
    · isplitl [HA] <;> iassumption
    iexact Hb
  iexact HO

/-! ## The run -/

set_option backward.isDefEq.respectTransparency.types false in
/-- Every weakly fair execution of @main on the devices, from any memory with zero counters, ends with every buffer outside the scope at
    `W3` and every counter at zero. -/
theorem run_main : θ_run defs (onTc (τ := τ) (main (F := F))) ⟨m, fun _ => 0, ρ⟩
    (fun r => (∀ c : Dev nD, ∀ b ∈ Pipeline.ucRefs τ sig, r.2.mem ((c : Dev nD), b) = W3 m c b) ∧ r.2.sem = fun _ => 0) :=
  Pipeline.θ_run_regions_kit_dev_sems (pcfgs (F := F)) adm (pdats m) () cellOf_inj EP defs₀ 𝒱₀ LL lv m ρ main
    (segs m 𝒱₀ LL lv (fun _ => E0 m) () (pdats m) (reg0 m) (reg1 m))
    (fun c Q => by
      rewrite [main_chain c, Pipeline.Seg.run_eq_chain,
        show (segs m 𝒱₀ LL lv (fun _ => E0 m) () (pdats m) (reg0 m) (reg1 m) c).map Pipeline.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (O₀ := owe0) (hL := LL_of_ne) (G := G) (u₀ := u₀)
    (hu₀ := by
      iintro Hu
      ihave H := (own_u₀ (F := F)) $$ Hu
      icases H with ⟨HP, HX⟩
      imodintro
      isplitl [HP]; · iexact HP
      unfold G
      rw [bigSep_onZero]; iexact HX)
    (T₀ := T₀ m) (Tₙ := Tₙ m)
    (hch := fun c => ⟨.rfl, pre0 m c, (post0 m c).trans (pre1 m c), post1 m c⟩)
    (hinit := init m ρ)
    (QY := fun c s => (∀ b ∈ Pipeline.ucRefs τ sig, s.mem ((c : Dev nD), b) = W3 m c b) ∧ s.sem (cellB c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_bar sm hsm
      exact (h c).2⟩)

end Cert.KernelIdeal.Gath
-- ==== Proof.Frames.lean ====
/-
  The frames: each program runs to the end, keeps its arguments and leaves every counter at zero.
-/
module

public import proofs.«01_k».proof.Proof.Run
public import proofs.«01_k».proof.Proof.Gen.Kernel
public import proofs.«01_k».proof.Proof.Gen.ReferenceIdeal.Run
public import proofs.«01_k».proof.Defs

@[expose] public section

noncomputable section

namespace Cert.KernelIdeal.Gath

open Idealize.ShloMosaic Idealize.SL.Sem Cert.KernelIdeal Cert.KernelIdeal.Gen
open Idealize.ShloMosaic.TcCoe

variable {F : FTy → Type} [FloatOps F] (m : (ℓ : Loc nD τ sig) → Buf (Elt F) ℓ) (ρ : Dev nD → PrngReg)

/-- The result and the arguments at the end, and the counters. -/
theorem run_ends : θ_run defs (onTc (τ := τ) (main (F := F))) ⟨m, fun _ => 0, ρ⟩ (fun r => (∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  refine (θ_run defs _ _).mono (fun r h => ⟨fun c => ?_, h.2⟩) (run_main m ρ)
  have at' : ∀ b : Ref sig .tc, b.isScoped = false → r.2.mem ((c : Thread nD τ).loc b) = W3 m c b := fun b hb =>
    h.1 c _ (Finset.mem_filter.mpr ⟨StableHlo.devRef_mem_tcRefs b, by simpa using hb⟩)
  exact ⟨(at' main_v4 (by decide)).trans (W3_res m c), (at' main_arg0 (by decide)).trans (W3_arg m c _ (by decide)),
    (at' main_arg1 (by decide)).trans (W3_arg m c _ (by decide)), (at' main_arg2 (by decide)).trans (W3_arg m c _ (by decide)),
    (at' main_arg3 (by decide)).trans (W3_arg m c _ (by decide))⟩

/-- The arguments at the end, and the counters. -/
theorem run_keeps : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => (h.1 c).2, h.2⟩) (run_ends m ρ)

end Cert.KernelIdeal.Gath

namespace Cert.Proof

open Idealize.ShloMosaic Idealize.SL.Sem

theorem frame_kernelIdeal : Cert.quiescent_KernelIdeal := fun m ρ _ => Cert.KernelIdeal.Gath.run_keeps m ρ

/-! The two programs have one text, so the first one's frame is the run at its float values. Their bodies are equal as they stand;
    of the tables that hold the bodies this is said label by label. -/

section
variable {F : FTy → Type} [FloatOps F]

theorem ag_eq : Cert.Kernel.cc0__ag_body (F := F) = Cert.KernelIdeal.cc0__ag_body (F := F) := rfl

theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl
  | 1, (t, s) => exact rfl

theorem table_eq : Cert.Kernel.defs (F := F) = Cert.KernelIdeal.defs (F := F) := by
  unfold Cert.Kernel.defs Cert.KernelIdeal.defs
  rw [bodies_eq]
  rfl

end

theorem frame_kernel : Cert.quiescent_Kernel := fun m ρ _ => by
  rw [table_eq]
  exact Cert.KernelIdeal.Gath.run_keeps (F := Bits) m ρ

/-- The reference has no semaphore at all. -/
theorem frame_referenceIdeal : Cert.quiescent_ReferenceIdeal := fun m ρ _ =>
  (θ_run Cert.ReferenceIdeal.defs _ _).mono (fun _ h => ⟨fun c => (h c).2, by funext g; exact nomatch g.2⟩) (Cert.ReferenceIdeal.Value.run m ρ)

end Cert.Proof

end
-- ==== Proof.Value.lean ====
/-
  The result read over the extended reals: at every index the product of the gathered arrays' row and column, times its logistic.
-/
module

public import proofs.«01_k».proof.Proof.Frames
public import Idealize.ShloMosaic.Lib.IdealHost
public import Idealize.ShloMosaic.Lib.ValueIdx
public import Idealize.ShloMosaic.Lib.Pointwise
public import Idealize.ShloMosaic.PureOps.Ideal.Laws

@[expose] public section

set_option maxRecDepth 16384

noncomputable section

namespace Cert.KernelIdeal.Gath

open Idealize.ShloMosaic Cert.KernelIdeal Cert.KernelIdeal.Gen
open Idealize.ShloMosaic.TcCoe

variable (m : (ℓ : Loc nD τ sig) → Buf (Elt Ideal) ℓ)

/-- The product of the gathered arrays at an index. -/
def dotAt (c : Dev nD) (i : S4096x8192.Idx) : EReal :=
  ∑ k : Fin 4096, (gXB (inp m) c (ix2 (n0 := 4096) (n1 := 4096) (i 0) k) : EReal) * (gWB (inp m) (ix2 (n0 := 4096) (n1 := 8192) k (i 1)) : EReal)

/-- A block of the product, element by element. -/
theorem pay1_apply (X : FVec Ideal S1024x4096 .bf16) (Y : FVec Ideal S4096x1024 .bf16) (y : S1024x1024.Idx) :
    (k1_pay1 (F := Ideal) X Y y : EReal) = (∑ k : Fin 4096, (X (ix2 (n0 := 1024) (n1 := 4096) (y 0) k) : EReal) * Y (ix2 (n0 := 4096) (n1 := 1024) k (y 1)))
      * Ideal.logistic (∑ k : Fin 4096, (X (ix2 (n0 := 1024) (n1 := 4096) (y 0) k) : EReal) * Y (ix2 (n0 := 4096) (n1 := 1024) k (y 1))) := by
  pointwise [k1_pay1]

/-- Which blocks a point takes. -/
theorem index1_0 : ∀ t : Fin cfg1.N, win1_0.index t = ![(grid1.coords t 0).val, 0] := (by decide +kernel : ∀ t : Fin grid1.N, _)
theorem index1_1 : ∀ t : Fin cfg1.N, win1_1.index t = ![0, (grid1.coords t 1).val] := (by decide +kernel : ∀ t : Fin grid1.N, _)
theorem index1_2 : ∀ t : Fin cfg1.N, win1_2.index t = ![(grid1.coords t 0).val, (grid1.coords t 1).val] := (by decide +kernel : ∀ t : Fin grid1.N, _)

theorem res_eq (c : Dev nD) : res m c = fun i : S4096x8192.Idx => dotAt m c i * Ideal.logistic (dotAt m c i) := by
  refine (dat1 m c).arrAt_eq_of_covers 2 _ (by decide +kernel) fun t hf y => ?_
  blk_simp
  show k1_pay1 (blkX m c t) (blkW m t) y = _
  rw [pay1_apply]
  have h : (∑ k : Fin 4096, (blkX m c t (ix2 (n0 := 1024) (n1 := 4096) (y 0) k) : EReal) * blkW m t (ix2 (n0 := 4096) (n1 := 1024) k (y 1))) = dotAt m c ((win1_2.blk t).view.emb y) := by
    unfold dotAt
    refine Finset.sum_congr rfl fun k _ => ?_
    have hx : blkX m c t (ix2 (n0 := 1024) (n1 := 4096) (y 0) k) = gXB (inp m) c (ix2 (n0 := 4096) (n1 := 4096) ((win1_2.blk t).view.emb y 0) k) := by
      unfold blkX
      blk_simp
      refine congrArg (gXB (inp m) c) ?_
      blk_ext [index1_0, index1_2]
    have hw : blkW m t (ix2 (n0 := 4096) (n1 := 1024) k (y 1)) = gWB (inp m) (ix2 (n0 := 4096) (n1 := 8192) k ((win1_2.blk t).view.emb y 1)) := by
      unfold blkW
      blk_simp
      refine congrArg (gWB (inp m)) ?_
      blk_ext [index1_1, index1_2]
    rw [hx, hw]
  rw [h]

end Cert.KernelIdeal.Gath

end
-- ==== Proof.Algebra.lean ====
/-
  The equation of extended reals behind the value claim: with a finite scale, scaling x before the product is scaling the product, and
  multiplying by the logistic is dividing by one plus the exponential of the opposite.
-/
module

public import Idealize.ShloMosaic.Lib.IdealHost
public import Idealize.ShloMosaic.PureOps.Ideal.Laws

@[expose] public section

noncomputable section

namespace Cert.Proof

open Idealize.ShloMosaic

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A product summed over whole numbers, either scaled before or after: both are one real number. -/
theorem sum_scaled {n : ℕ} (a b : Fin n → ℝ) (s : ℝ) :
    (∑ k, ((a k : EReal) * (s : EReal)) * (b k : EReal)) = ((∑ k, a k * b k) * s : ℝ) := by
  rw [Finset.sum_mul, coe_sum]
  refine Finset.sum_congr rfl fun k _ => ?_
  rw [← EReal.coe_mul, ← EReal.coe_mul]
  exact congrArg _ (by ring)

theorem sum_plain {n : ℕ} (a b : Fin n → ℝ) : (∑ k, (a k : EReal) * (b k : EReal)) = ((∑ k, a k * b k : ℝ) : EReal) := by
  rw [coe_sum]
  exact Finset.sum_congr rfl fun k _ => (EReal.coe_mul _ _).symm

theorem one_add_exp_ne (y : ℝ) : (1 : EReal) + Ideal.exp (-(y : EReal)) ≠ 0 := by
  rw [← EReal.coe_neg, Ideal.exp_coe, ← EReal.coe_one, ← EReal.coe_add]
  exact fun h => (by positivity : (1 + Real.exp (-y)) ≠ 0) (EReal.coe_eq_zero.mp h)

theorem silu (y : ℝ) : (y : EReal) * Ideal.logistic y = Ideal.div y (1 + Ideal.exp (-(y : EReal))) :=
  Ideal.mul_one_div (one_add_exp_ne y)

/-- A number whose absolute value is below infinity is real. -/
theorem real_of_abs_lt {x : EReal} (h : max x (-x) < ⊤) : ∃ r : ℝ, x = r := by
  induction x with
  | bot => simp at h
  | top => simp at h
  | coe r => exact ⟨r, rfl⟩

end Cert.Proof

end
-- ==== Proof.Meet.lean ====
/-
  The value claim: from the whole arrays' parts the kernel's result on every device is the reference's.
-/
module

public import proofs.«01_k».proof.Proof.Value
public import proofs.«01_k».proof.Proof.Algebra
public import proofs.«01_k».proof.Proof.Gen.ReferenceIdeal.Run
public import Idealize.ShloMosaic.Lib.Layout

@[expose] public section

set_option maxRecDepth 16384

noncomputable section

namespace Cert.Proof

open Idealize.ShloMosaic Idealize.SL.Sem
open Idealize.ShloMosaic.TcCoe
open Cert.KernelIdeal.Gath (Inp inp gX gW gXB gWB castX1 castW1 dotAt res)

/-! ## The gathered arrays -/

/-- Gathering the blocks of x gives x. -/
theorem gX_block (I : Inp Ideal) (X : (⟨2, ![4096, 4096]⟩ : Shape).Idx → BitVec 8)
    (h : ∀ c, I.x c = Layout.block ⟨2, ![4096, 256]⟩ ⟨2, ![4096, 4096]⟩ 1 16 c X) : gX I = X := by
  funext i
  unfold gX
  rw [h, Layout.block_apply]
  refine congrArg X ?_
  funext a
  apply Fin.ext
  match a with
  | 0 => rfl
  | 1 => exact Nat.div_add_mod' (i 1).val 256

/-- Gathering the blocks of w gives w. -/
theorem gW_block (I : Inp Ideal) (W : (⟨2, ![4096, 8192]⟩ : Shape).Idx → BitVec 8)
    (h : ∀ c, I.w c = Layout.block ⟨2, ![256, 8192]⟩ ⟨2, ![4096, 8192]⟩ 0 16 c W) : gW I = W := by
  funext i
  unfold gW
  rw [h, Layout.block_apply]
  refine congrArg W ?_
  funext a
  apply Fin.ext
  match a with
  | 0 => exact Nat.div_add_mod' (i 0).val 256
  | 1 => rfl

/-! ## The casts -/

theorem castX1_ideal (s : EReal) (v : BitVec 8) : castX1 (F := Ideal) s v = ((v.toInt : ℝ) : EReal) * s := rfl
theorem castW1_ideal (v : BitVec 8) : castW1 (F := Ideal) v = ((v.toInt : ℝ) : EReal) := rfl

/-- The host's operations leave the product of the scales. -/
theorem scale_run (m : (ℓ : Loc Cert.KernelIdeal.nD Cert.KernelIdeal.τ Cert.KernelIdeal.sig) → Buf (Elt Ideal) ℓ) (c : Dev Cert.KernelIdeal.nD)
    (p q : FVec Ideal Cert.KernelIdeal.S1 .f32) (hp : m ((c : Thread Cert.KernelIdeal.nD Cert.KernelIdeal.τ).loc Cert.KernelIdeal.main_arg2) = p)
    (hq : m ((c : Thread Cert.KernelIdeal.nD Cert.KernelIdeal.τ).loc Cert.KernelIdeal.main_arg3) = q) :
    @Eq (FVec Ideal Cert.KernelIdeal.S1x1 .f32) (Cert.KernelIdeal.Gen.V1 m c Cert.KernelIdeal.main_v2)
      (shapeCast Cert.KernelIdeal.S1x1 (mulf p q) Cert.KernelIdeal.Gen.shapeCasts_S1_S1x1) := by
  subst hp hq
  after_results
  rfl

/-- The scale a device takes. -/
theorem scale_ideal (m : (ℓ : Loc Cert.KernelIdeal.nD Cert.KernelIdeal.τ Cert.KernelIdeal.sig) → Buf (Elt Ideal) ℓ) (c : Dev Cert.KernelIdeal.nD)
    (p q : FVec Ideal Cert.KernelIdeal.S1 .f32) (hp : m ((c : Thread Cert.KernelIdeal.nD Cert.KernelIdeal.τ).loc Cert.KernelIdeal.main_arg2) = p)
    (hq : m ((c : Thread Cert.KernelIdeal.nD Cert.KernelIdeal.τ).loc Cert.KernelIdeal.main_arg3) = q) :
    ((inp m).s c : EReal) = (p (ix1 (n0 := 1) 0) : EReal) * q (ix1 (n0 := 1) 0) := by
  show (Cert.KernelIdeal.Gen.V1 m c Cert.KernelIdeal.main_v2 : FVec Ideal Cert.KernelIdeal.S1x1 .f32) (ix2 (n0 := 1) (n1 := 1) 0 0) = _
  rw [scale_run m c p q hp hq]
  pointwise

/-! ## The reference -/

section
open Cert.ReferenceIdeal Cert.ReferenceIdeal.Gen

/-- The reference's result as a term of its arguments. -/
def refOut (X : IVec S4096x4096 8) (W : IVec S4096x8192 8) (p q : FVec Ideal S1 .f32) : FVec Ideal S4096x8192 .f32 :=
  Host.divf (mulf (Host.dotGeneral dot_S4096x4096_S4096x8192_S4096x8192_1_0_0_1_n_n none (sitofp .f32 (extsi 32 X natLt_8_32)) (sitofp .f32 (extsi 32 W natLt_8_32))) (broadcastInDim S4096x8192 ![0, 1] bcast_S1x1_S4096x8192_0_1 (broadcastInDim S1x1 ![1] bcast_S1_S1x1_1 (mulf p q)))) (addf (broadcastInDim S4096x8192 ![] bcast_S_S4096x8192 (constant S_ .f32 0x3F800000#32)) (Host.exp (Host.negf (mulf (Host.dotGeneral dot_S4096x4096_S4096x8192_S4096x8192_1_0_0_1_n_n none (sitofp .f32 (extsi 32 X natLt_8_32)) (sitofp .f32 (extsi 32 W natLt_8_32))) (broadcastInDim S4096x8192 ![0, 1] bcast_S1x1_S4096x8192_0_1 (broadcastInDim S1x1 ![1] bcast_S1_S1x1_1 (mulf p q)))))))

/-- The reference's product at an index. -/
def refDot (X : IVec S4096x4096 8) (W : IVec S4096x8192 8) (p q : FVec Ideal S1 .f32) (i : S4096x8192.Idx) : EReal :=
  (∑ k : Fin 4096, (((X (ix2 (n0 := 4096) (n1 := 4096) (i 0) k)).toInt : ℝ) : EReal) * (((W (ix2 (n0 := 4096) (n1 := 8192) k (i 1))).toInt : ℝ) : EReal))
    * ((p (ix1 (n0 := 1) 0) : EReal) * q (ix1 (n0 := 1) 0))

/-- Widening keeps the number. -/
theorem wide (v : BitVec 8) : (v.signExtend 32).toInt = v.toInt := BitVec.toInt_signExtend_of_le (by decide)

/-- The reference's result at an index. -/
theorem refOut_apply (X : IVec S4096x4096 8) (W : IVec S4096x8192 8) (p q : FVec Ideal S1 .f32) (i : S4096x8192.Idx) :
    (refOut X W p q i : EReal) = Ideal.div (refDot X W p q i) (1 + Ideal.exp (-(refDot X W p q i))) := by
  unfold refDot
  pointwise [refOut]
  have e : ∀ v : BitVec 8, (FloatOps.sitofp .f32 (v.signExtend 32) : Ideal .f32) = ((v.toInt : ℝ) : EReal) := fun v =>
    congrArg (fun z : ℤ => ((z : ℝ) : EReal)) (wide v)
  simp only [e]

end

/-! ## The precondition -/

/-- The precondition says that both scales are real. -/
theorem finite_of (X : IVec Cert.Pre_finite_scales_KernelIdeal.S4096x256 8) (W : IVec Cert.Pre_finite_scales_KernelIdeal.S256x8192 8)
    (p q : FVec Ideal Cert.Pre_finite_scales_KernelIdeal.S1 .f32) [Cert.Pre_finite_scales_KernelIdeal.Facts]
    (h : Cert.Pre_finite_scales_KernelIdeal.fn X W p q = fun _ => 1#1) :
    (∃ r : ℝ, (p (ix1 (n0 := 1) 0) : EReal) = r) ∧ ∃ r : ℝ, (q (ix1 (n0 := 1) 0) : EReal) = r := by
  have h0 := congrFun h (fun a => a.elim0)
  pointwise [Cert.Pre_finite_scales_KernelIdeal.fn] at h0
  have top : Ideal.ofBits .f32 0x7F800000#32 = ⊤ := by simp [Ideal.ofBits, Ideal.ieee]
  have both : ∀ a b : Bool, IntOp.andi (BitVec.ofBool a) (BitVec.ofBool b) = 1#1 → a = true ∧ b = true := by decide
  rw [top] at h0
  obtain ⟨hp, hq⟩ := both _ _ h0
  exact ⟨real_of_abs_lt (of_decide_eq_true hp), real_of_abs_lt (of_decide_eq_true hq)⟩

/-- The two results are one, number by number. -/
theorem same (m : (ℓ : Loc Cert.KernelIdeal.nD Cert.KernelIdeal.τ Cert.KernelIdeal.sig) → Buf (Elt Ideal) ℓ) (c : Dev Cert.KernelIdeal.nD)
    (X : IVec Cert.ReferenceIdeal.S4096x4096 8) (W : IVec Cert.ReferenceIdeal.S4096x8192 8) (p q : FVec Ideal Cert.ReferenceIdeal.S1 .f32)
    (hx : gX (inp m) = X) (hw : gW (inp m) = W) (hs : ((inp m).s c : EReal) = (p (ix1 (n0 := 1) 0) : EReal) * q (ix1 (n0 := 1) 0))
    (hp : ∃ r : ℝ, (p (ix1 (n0 := 1) 0) : EReal) = r) (hq : ∃ r : ℝ, (q (ix1 (n0 := 1) 0) : EReal) = r) :
    @Eq (FVec Ideal Cert.ReferenceIdeal.S4096x8192 .f32) (res m c) (refOut X W p q) := by
  obtain ⟨a, ha⟩ := hp
  obtain ⟨b, hb⟩ := hq
  rw [Cert.KernelIdeal.Gath.res_eq]
  funext i
  rw [refOut_apply]
  have hk : dotAt m c i = (((∑ k : Fin 4096, ((X (ix2 (n0 := 4096) (n1 := 4096) (i 0) k)).toInt : ℝ) * ((W (ix2 (n0 := 4096) (n1 := 8192) k (i 1))).toInt : ℝ)) * (a * b) : ℝ) : EReal) := by
    unfold dotAt gXB gWB
    rw [← sum_scaled]
    refine Finset.sum_congr rfl fun k _ => ?_
    rw [castX1_ideal, castW1_ideal, hx, hw, hs, ha, hb, EReal.coe_mul]
  have hr : refDot X W p q i = dotAt m c i := by
    rw [hk]
    unfold refDot
    rw [sum_plain, ha, hb, ← EReal.coe_mul, ← EReal.coe_mul]
  rw [hr, hk]
  exact silu _

/-- Every device's result is the reference's. -/
theorem algebraic [Cert.Pre_finite_scales_KernelIdeal.Facts] : Cert.algebraic_KernelIdeal_ReferenceIdeal_pre_finite_scales_KernelIdeal := by
  intro m g m' g' hpre h
  have hgx := gX_block (inp m) _ fun c => (h c).1
  have hgw := gW_block (inp m) _ fun c => (h c).2.1
  refine ⟨refOut (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)), ?_, ?_⟩
  · refine (θ_run Cert.KernelIdeal.defs _ _).mono (fun r hr c => ⟨(hr.1 c).1.trans ?_, (hr.1 c).2⟩) (Cert.KernelIdeal.Gath.run_ends m g)
    have hf := finite_of _ _ _ _ (hpre c)
    rw [(h c).2.2.1, (h c).2.2.2] at hf
    exact same m c _ _ _ _ hgx hgw (scale_ideal m c _ _ (h c).2.2.1 (h c).2.2.2) hf.1 hf.2
  · exact (θ_run Cert.ReferenceIdeal.defs _ _).mono (fun r hr => hr 0) (Cert.ReferenceIdeal.Value.run m' g')

end Cert.Proof

end
-- ==== Proof.lean ====
/-
  The proof of `Cert.Claim`, put together: the three frames (Frames.lean), the same text of the two kernel programs, and the value claim
  (Meet.lean). The run behind all of them is Run.lean's `run_main`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The two preconditions' side conditions. -/
theorem preKernelIdeal : Cert.Pre_finite_scales_KernelIdeal.Facts := ⟨by decide⟩
theorem preReferenceIdeal : Cert.Pre_finite_scales_ReferenceIdeal.Facts := ⟨by decide⟩

theorem claim : Cert.Claim := ⟨Cert.Kernel.Gen.facts, Cert.KernelIdeal.Gen.facts, Cert.ReferenceIdeal.Gen.facts, preKernelIdeal, preReferenceIdeal,
  frame_kernel, frame_kernelIdeal, fun m ρ _ => frame_kernelIdeal m ρ trivial, frame_referenceIdeal, fun m ρ _ => frame_referenceIdeal m ρ trivial,
  trivial, @algebraic preKernelIdeal⟩

end Cert.Proof

end
